-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x256 : Shape := ⟨3, ![4, 256, 256]⟩
abbrev S8x8192x32 : Shape := ⟨3, ![8, 8192, 32]⟩
abbrev S4x8x32x256 : Shape := ⟨4, ![4, 8, 32, 256]⟩
abbrev S_ : Shape := ⟨0, ![]⟩
abbrev S4x8x256 : Shape := ⟨3, ![4, 8, 256]⟩
abbrev S4x8x1x256 : Shape := ⟨4, ![4, 8, 1, 256]⟩
abbrev S8x1x1 : Shape := ⟨3, ![8, 1, 1]⟩
abbrev S1x1 : Shape := ⟨2, ![1, 1]⟩
abbrev S1x1x1x256 : Shape := ⟨4, ![1, 1, 1, 256]⟩
abbrev S1x1x32x256 : Shape := ⟨4, ![1, 1, 32, 256]⟩
abbrev S1x8192x32 : Shape := ⟨3, ![1, 8192, 32]⟩
abbrev S1x1x1 : Shape := ⟨3, ![1, 1, 1]⟩
abbrev S1x8192 : Shape := ⟨2, ![1, 8192]⟩
abbrev S32x256 : Shape := ⟨2, ![32, 256]⟩
abbrev S8192x32 : Shape := ⟨2, ![8192, 32]⟩
abbrev S1x256 : Shape := ⟨2, ![1, 256]⟩
abbrev S8192 : Shape := ⟨1, ![8192]⟩
abbrev S8192x1 : Shape := ⟨2, ![8192, 1]⟩
abbrev S8192x256 : Shape := ⟨2, ![8192, 256]⟩
abbrev S256 : Shape := ⟨1, ![256]⟩
abbrev S1x32x256 : Shape := ⟨3, ![1, 32, 256]⟩
abbrev S1 : Shape := ⟨1, ![1]⟩
abbrev S1x1x8192 : Shape := ⟨3, ![1, 1, 8192]⟩
abbrev S8 : Shape := ⟨1, ![8]⟩

abbrev nBuf : Space → Nat
  | .hbm => 13
  | .vmem => 12
  | .smem => 1
  | _ => 0

abbrev bufTy : (tb : Table) → Fin (tcTables nBuf tb) → BufTy
  | .hbm, ⟨0, _⟩ => ⟨S4x256x256, .f32⟩
  | .hbm, ⟨1, _⟩ => ⟨S8x8192x32, .f32⟩
  | .hbm, ⟨2, _⟩ => ⟨S4x8x32x256, .f32⟩
  | .hbm, ⟨3, _⟩ => ⟨S4x8x32x256, .f32⟩
  | .hbm, ⟨4, _⟩ => ⟨S_, .f32⟩
  | .hbm, ⟨5, _⟩ => ⟨S4x8x256, .f32⟩
  | .hbm, ⟨6, _⟩ => ⟨S4x8x1x256, .f32⟩
  | .hbm, ⟨7, _⟩ => ⟨S4x8x32x256, .f32⟩
  | .hbm, ⟨8, _⟩ => ⟨S8x1x1, .f32⟩
  | .hbm, ⟨9, _⟩ => ⟨S1x1, .f32⟩
  | .hbm, ⟨10, _⟩ => ⟨S4x256x256, .f32⟩
  | .hbm, ⟨11, _⟩ => ⟨S_, .f32⟩
  | .hbm, ⟨12, _⟩ => ⟨S8, .f32⟩
  | .local _ .vmem, ⟨0, _⟩ => ⟨S1x1x1x256, .f32⟩
  | .local _ .vmem, ⟨1, _⟩ => ⟨S1x1x1x256, .f32⟩
  | .local _ .vmem, ⟨2, _⟩ => ⟨S1x1x32x256, .f32⟩
  | .local _ .vmem, ⟨3, _⟩ => ⟨S1x1x32x256, .f32⟩
  | .local _ .vmem, ⟨4, _⟩ => ⟨S1x8192x32, .f32⟩
  | .local _ .vmem, ⟨5, _⟩ => ⟨S1x8192x32, .f32⟩
  | .local _ .vmem, ⟨6, _⟩ => ⟨S1x1x32x256, .f32⟩
  | .local _ .vmem, ⟨7, _⟩ => ⟨S1x1x32x256, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | .local _ .vmem, ⟨11, _⟩ => ⟨S1x8192, .f32⟩
  | .local _ .smem, ⟨0, _⟩ => ⟨S1x1, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![8, 4], ![false, false]⟩

def k0_cond5 (i : grid0.Coords) : BitVec 1 :=
  let arg1 : BitVec 32 := BitVec.ofNat 32 (i 1).val
  let c3_i32 : BitVec 32 := 3#32
  let v59 : BitVec 1 := Scalar.cmpi .eq arg1 c3_i32
  let v60 : BitVec 32 := Scalar.extui v59
  let c0_i32_31 : BitVec 32 := 0#32
  let v61 : BitVec 1 := Scalar.cmpi .ne v60 c0_i32_31
  v61

def k0_cond6 (i : grid0.Coords) : BitVec 1 :=
  let arg0 : BitVec 32 := BitVec.ofNat 32 (i 0).val
  let c7_i32 : BitVec 32 := 7#32
  let v62 : BitVec 1 := Scalar.cmpi .eq arg0 c7_i32
  let arg1 : BitVec 32 := BitVec.ofNat 32 (i 1).val
  let c3_i32_32 : BitVec 32 := 3#32
  let v63 : BitVec 1 := Scalar.cmpi .eq arg1 c3_i32_32
  let v64 : BitVec 1 := Scalar.andi v62 v63
  let v65 : BitVec 32 := Scalar.extui v64
  let c0_i32_33 : BitVec 32 := 0#32
  let v66 : BitVec 1 := Scalar.cmpi .ne v65 c0_i32_33
  v66

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S4x256x256 : Shape := ⟨3, ![4, 256, 256]⟩
abbrev S8x8192x32 : Shape := ⟨3, ![8, 8192, 32]⟩
abbrev S4x8x32x256 : Shape := ⟨4, ![4, 8, 32, 256]⟩
abbrev S_ : Shape := ⟨0, ![]⟩
abbrev S4x8x256 : Shape := ⟨3, ![4, 8, 256]⟩
abbrev S4x8x1x256 : Shape := ⟨4, ![4, 8, 1, 256]⟩
abbrev S8x8192 : Shape := ⟨2, ![8, 8192]⟩
abbrev S1x8x8192x1 : Shape := ⟨4, ![1, 8, 8192, 1]⟩
abbrev S8x8192x4x256 : Shape := ⟨4, ![8, 8192, 4, 256]⟩
abbrev S4x8x8192x256 : Shape := ⟨4, ![4, 8, 8192, 256]⟩
abbrev S8 : Shape := ⟨1, ![8]⟩
abbrev S1x8x1 : Shape := ⟨3, ![1, 8, 1]⟩
abbrev S4x8x256x1 : Shape := ⟨4, ![4, 8, 256, 1]⟩
abbrev S4x8x256x2 : Shape := ⟨4, ![4, 8, 256, 2]⟩
abbrev S4x8x256x32 : Shape := ⟨4, ![4, 8, 256, 32]⟩
abbrev S4x1x256 : Shape := ⟨3, ![4, 1, 256]⟩
abbrev S4x256 : Shape := ⟨2, ![4, 256]⟩
abbrev S1024 : Shape := ⟨1, ![1024]⟩
abbrev S8192 : Shape := ⟨1, ![8192]⟩
abbrev S1024x1 : Shape := ⟨2, ![1024, 1]⟩
abbrev S1x8192 : Shape := ⟨2, ![1, 8192]⟩

abbrev nBuf : Space → Nat
  | .hbm => 279
  | .vmem => 0
  | .smem => 0
  | _ => 0

abbrev hbmTy0_0 (i : Nat) : BufTy := match i % 128 with
  | 0 => ⟨S4x256x256, .f32⟩
  | 1 => ⟨S8x8192x32, .f32⟩
  | 2 => ⟨S4x8x32x256, .f32⟩
  | 3 => ⟨S4x8x32x256, .f32⟩
  | 4 => ⟨S_, .f32⟩
  | 5 => ⟨S4x8x256, .f32⟩
  | 6 => ⟨S4x8x1x256, .f32⟩
  | 7 => ⟨S8x8192x32, .f32⟩
  | 8 => ⟨S_, .f32⟩
  | 9 => ⟨S8x8192, .f32⟩
  | 10 => ⟨S1x8x8192x1, .f32⟩
  | 11 => ⟨S8x8192x4x256, .f32⟩
  | 12 => ⟨S4x8x8192x256, .f32⟩
  | 13 => ⟨S_, .f32⟩
  | 14 => ⟨S4x8x8192x256, .f32⟩
  | 15 => ⟨S4x8x8192x256, .f32⟩
  | 16 => ⟨S4x8x8192x256, .f32⟩
  | 17 => ⟨S4x8x8192x256, .f32⟩
  | 18 => ⟨S4x8x8192x256, .f32⟩
  | 19 => ⟨S4x8x8192x256, .f32⟩
  | 20 => ⟨S4x8x8192x256, .i32⟩
  | 21 => ⟨S_, .f32⟩
  | 22 => ⟨S_, .i32⟩
  | 23 => ⟨S4x8x256, .f32⟩
  | 24 => ⟨S4x8x256, .i32⟩
  | 25 => ⟨S8, .i32⟩
  | 26 => ⟨S1x8x1, .i32⟩
  | 27 => ⟨S_, .i32⟩
  | 28 => ⟨S1x8x1, .i32⟩
  | 29 => ⟨S1x8x1, .i1⟩
  | 30 => ⟨S_, .i32⟩
  | 31 => ⟨S1x8x1, .i32⟩
  | 32 => ⟨S1x8x1, .i32⟩
  | 33 => ⟨S1x8x1, .i32⟩
  | 34 => ⟨S_, .i32⟩
  | 35 => ⟨S4x8x256, .i32⟩
  | 36 => ⟨S4x8x256, .i1⟩
  | 37 => ⟨S_, .i32⟩
  | 38 => ⟨S4x8x256, .i32⟩
  | 39 => ⟨S4x8x256, .i32⟩
  | 40 => ⟨S4x8x256, .i32⟩
  | 41 => ⟨S4x8x256, .i32⟩
  | 42 => ⟨S4x8x256x1, .i32⟩
  | 43 => ⟨S4x8x256x1, .i32⟩
  | 44 => ⟨S4x8x256x2, .i32⟩
  | 45 => ⟨S4x8x256x32, .f32⟩
  | 46 => ⟨S4x8x32x256, .f32⟩
  | 47 => ⟨S4x1x256, .i32⟩
  | 48 => ⟨S4x256, .i32⟩
  | 49 => ⟨S1024, .i32⟩
  | 50 => ⟨S_, .i32⟩
  | 51 => ⟨S8192, .i32⟩
  | 52 => ⟨S_, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i1⟩
  | 59 => ⟨S_, .i32⟩
  | 60 => ⟨S1024, .i32⟩
  | 61 => ⟨S1024, .i32⟩
  | 62 => ⟨S1024, .i32⟩
  | 63 => ⟨S1024x1, .i32⟩
  | 64 => ⟨S_, .i32⟩
  | 65 => ⟨S1024, .i32⟩
  | 66 => ⟨S8192, .i32⟩
  | 67 => ⟨S8192, .f32⟩
  | 68 => ⟨S_, .f32⟩
  | 69 => ⟨S8192, .f32⟩
  | 70 => ⟨S8192, .f32⟩
  | 71 => ⟨S4x1x256, .i32⟩
  | 72 => ⟨S4x256, .i32⟩
  | 73 => ⟨S1024, .i32⟩
  | 74 => ⟨S_, .i32⟩
  | 75 => ⟨S8192, .i32⟩
  | 76 => ⟨S_, .i32⟩
  | 77 => ⟨S_, .i32⟩
  | 78 => ⟨S1024, .i32⟩
  | 79 => ⟨S1024, .i32⟩
  | 80 => ⟨S_, .i32⟩
  | 81 => ⟨S1024, .i32⟩
  | 82 => ⟨S1024, .i1⟩
  | 83 => ⟨S_, .i32⟩
  | 84 => ⟨S1024, .i32⟩
  | 85 => ⟨S1024, .i32⟩
  | 86 => ⟨S1024, .i32⟩
  | 87 => ⟨S1024x1, .i32⟩
  | 88 => ⟨S_, .i32⟩
  | 89 => ⟨S1024, .i32⟩
  | 90 => ⟨S8192, .i32⟩
  | 91 => ⟨S8192, .f32⟩
  | 92 => ⟨S_, .f32⟩
  | 93 => ⟨S8192, .f32⟩
  | 94 => ⟨S8192, .f32⟩
  | 95 => ⟨S4x1x256, .i32⟩
  | 96 => ⟨S4x256, .i32⟩
  | 97 => ⟨S1024, .i32⟩
  | 98 => ⟨S_, .i32⟩
  | 99 => ⟨S8192, .i32⟩
  | 100 => ⟨S_, .i32⟩
  | 101 => ⟨S_, .i32⟩
  | 102 => ⟨S1024, .i32⟩
  | 103 => ⟨S1024, .i32⟩
  | 104 => ⟨S_, .i32⟩
  | 105 => ⟨S1024, .i32⟩
  | 106 => ⟨S1024, .i1⟩
  | 107 => ⟨S_, .i32⟩
  | 108 => ⟨S1024, .i32⟩
  | 109 => ⟨S1024, .i32⟩
  | 110 => ⟨S1024, .i32⟩
  | 111 => ⟨S1024x1, .i32⟩
  | 112 => ⟨S_, .i32⟩
  | 113 => ⟨S1024, .i32⟩
  | 114 => ⟨S8192, .i32⟩
  | 115 => ⟨S8192, .f32⟩
  | 116 => ⟨S_, .f32⟩
  | 117 => ⟨S8192, .f32⟩
  | 118 => ⟨S8192, .f32⟩
  | 119 => ⟨S4x1x256, .i32⟩
  | 120 => ⟨S4x256, .i32⟩
  | 121 => ⟨S1024, .i32⟩
  | 122 => ⟨S_, .i32⟩
  | 123 => ⟨S8192, .i32⟩
  | 124 => ⟨S_, .i32⟩
  | 125 => ⟨S_, .i32⟩
  | 126 => ⟨S1024, .i32⟩
  | 127 => ⟨S1024, .i32⟩
  | _ => ⟨S4x256x256, .f32⟩

abbrev hbmTy0_1 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024x1, .i32⟩
  | 8 => ⟨S_, .i32⟩
  | 9 => ⟨S1024, .i32⟩
  | 10 => ⟨S8192, .i32⟩
  | 11 => ⟨S8192, .f32⟩
  | 12 => ⟨S_, .f32⟩
  | 13 => ⟨S8192, .f32⟩
  | 14 => ⟨S8192, .f32⟩
  | 15 => ⟨S4x1x256, .i32⟩
  | 16 => ⟨S4x256, .i32⟩
  | 17 => ⟨S1024, .i32⟩
  | 18 => ⟨S_, .i32⟩
  | 19 => ⟨S8192, .i32⟩
  | 20 => ⟨S_, .i32⟩
  | 21 => ⟨S_, .i32⟩
  | 22 => ⟨S1024, .i32⟩
  | 23 => ⟨S1024, .i32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S_, .i32⟩
  | 33 => ⟨S1024, .i32⟩
  | 34 => ⟨S8192, .i32⟩
  | 35 => ⟨S8192, .f32⟩
  | 36 => ⟨S_, .f32⟩
  | 37 => ⟨S8192, .f32⟩
  | 38 => ⟨S8192, .f32⟩
  | 39 => ⟨S4x1x256, .i32⟩
  | 40 => ⟨S4x256, .i32⟩
  | 41 => ⟨S1024, .i32⟩
  | 42 => ⟨S_, .i32⟩
  | 43 => ⟨S8192, .i32⟩
  | 44 => ⟨S_, .i32⟩
  | 45 => ⟨S_, .i32⟩
  | 46 => ⟨S1024, .i32⟩
  | 47 => ⟨S1024, .i32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S1024x1, .i32⟩
  | 56 => ⟨S_, .i32⟩
  | 57 => ⟨S1024, .i32⟩
  | 58 => ⟨S8192, .i32⟩
  | 59 => ⟨S8192, .f32⟩
  | 60 => ⟨S_, .f32⟩
  | 61 => ⟨S8192, .f32⟩
  | 62 => ⟨S8192, .f32⟩
  | 63 => ⟨S4x1x256, .i32⟩
  | 64 => ⟨S4x256, .i32⟩
  | 65 => ⟨S1024, .i32⟩
  | 66 => ⟨S_, .i32⟩
  | 67 => ⟨S8192, .i32⟩
  | 68 => ⟨S_, .i32⟩
  | 69 => ⟨S_, .i32⟩
  | 70 => ⟨S1024, .i32⟩
  | 71 => ⟨S1024, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i32⟩
  | 78 => ⟨S1024, .i32⟩
  | 79 => ⟨S1024x1, .i32⟩
  | 80 => ⟨S_, .i32⟩
  | 81 => ⟨S1024, .i32⟩
  | 82 => ⟨S8192, .i32⟩
  | 83 => ⟨S8192, .f32⟩
  | 84 => ⟨S_, .f32⟩
  | 85 => ⟨S8192, .f32⟩
  | 86 => ⟨S8192, .f32⟩
  | 87 => ⟨S4x1x256, .i32⟩
  | 88 => ⟨S4x256, .i32⟩
  | 89 => ⟨S1024, .i32⟩
  | 90 => ⟨S_, .i32⟩
  | 91 => ⟨S8192, .i32⟩
  | 92 => ⟨S_, .i32⟩
  | 93 => ⟨S_, .i32⟩
  | 94 => ⟨S1024, .i32⟩
  | 95 => ⟨S1024, .i32⟩
  | 96 => ⟨S_, .i32⟩
  | 97 => ⟨S1024, .i32⟩
  | 98 => ⟨S1024, .i1⟩
  | 99 => ⟨S_, .i32⟩
  | 100 => ⟨S1024, .i32⟩
  | 101 => ⟨S1024, .i32⟩
  | 102 => ⟨S1024, .i32⟩
  | 103 => ⟨S1024x1, .i32⟩
  | 104 => ⟨S_, .i32⟩
  | 105 => ⟨S1024, .i32⟩
  | 106 => ⟨S8192, .i32⟩
  | 107 => ⟨S8192, .f32⟩
  | 108 => ⟨S_, .f32⟩
  | 109 => ⟨S8192, .f32⟩
  | 110 => ⟨S8192, .f32⟩
  | 111 => ⟨S1x8192, .f32⟩
  | 112 => ⟨S1x8192, .f32⟩
  | 113 => ⟨S1x8192, .f32⟩
  | 114 => ⟨S1x8192, .f32⟩
  | 115 => ⟨S1x8192, .f32⟩
  | 116 => ⟨S1x8192, .f32⟩
  | 117 => ⟨S1x8192, .f32⟩
  | 118 => ⟨S1x8192, .f32⟩
  | 119 => ⟨S8x8192, .f32⟩
  | 120 => ⟨S8x8192, .f32⟩
  | 121 => ⟨S_, .f32⟩
  | 122 => ⟨S8x8192, .f32⟩
  | 123 => ⟨S8x8192, .f32⟩
  | 124 => ⟨S8x8192, .f32⟩
  | 125 => ⟨S8x8192, .f32⟩
  | 126 => ⟨S8x8192, .i1⟩
  | 127 => ⟨S_, .f32⟩
  | _ => ⟨S4x256x256, .f32⟩

abbrev hbmTy0_2 (i : Nat) : BufTy := match i % 128 with
  | 0 => ⟨S8x8192, .f32⟩
  | 1 => ⟨S8x8192, .f32⟩
  | 2 => ⟨S_, .f32⟩
  | 3 => ⟨S8, .f32⟩
  | 4 => ⟨S8, .f32⟩
  | 5 => ⟨S4x8x32x256, .f32⟩
  | 6 => ⟨S4x8x32x256, .f32⟩
  | 7 => ⟨S_, .f32⟩
  | 8 => ⟨S_, .f32⟩
  | 9 => ⟨S_, .f32⟩
  | 10 => ⟨S_, .f32⟩
  | 11 => ⟨S4x8x32x256, .f32⟩
  | 12 => ⟨S4x8x32x256, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S4x8x32x256, .f32⟩
  | 21 => ⟨S4x8x32x256, .f32⟩
  | 22 => ⟨S4x256x256, .f32⟩
  | _ => ⟨S4x256x256, .f32⟩

abbrev hbmTy (i : Nat) : BufTy := match i / 128 with
  | 0 => hbmTy0_0 i
  | 1 => hbmTy0_1 i
  | 2 => hbmTy0_2 i
  | _ => ⟨S4x256x256, .f32⟩

abbrev bufTy : (tb : Table) → Fin (tcTables nBuf tb) → BufTy
  | .hbm, ⟨i, _⟩ => hbmTy i
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_c_6 : Ref sig .tc := ⟨.hbm, 52, rfl⟩
abbrev main_call1_v0 : Ref sig .tc := ⟨.hbm, 53, rfl⟩
abbrev main_call1_v1 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_c_12 : Ref sig .tc := ⟨.hbm, 76, rfl⟩
abbrev main_call2_v0 : Ref sig .tc := ⟨.hbm, 77, rfl⟩
abbrev main_call2_v1 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_c_18 : Ref sig .tc := ⟨.hbm, 100, rfl⟩
abbrev main_call3_v0 : Ref sig .tc := ⟨.hbm, 101, rfl⟩
abbrev main_call3_v1 : Ref sig .tc := ⟨.hbm, 102, rfl⟩
abbrev main_v70 : Ref sig .tc := ⟨.hbm, 103, rfl⟩
abbrev main_c_19 : Ref sig .tc := ⟨.hbm, 104, rfl⟩
abbrev main_v71 : Ref sig .tc := ⟨.hbm, 105, rfl⟩
abbrev main_v72 : Ref sig .tc := ⟨.hbm, 106, rfl⟩
abbrev main_c_20 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_21 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_22 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_23 : Ref sig .tc := ⟨.hbm, 122, rfl⟩
abbrev main_v85 : Ref sig .tc := ⟨.hbm, 123, rfl⟩
abbrev main_c_24 : Ref sig .tc := ⟨.hbm, 124, rfl⟩
abbrev main_call4_v0 : Ref sig .tc := ⟨.hbm, 125, rfl⟩
abbrev main_call4_v1 : Ref sig .tc := ⟨.hbm, 126, rfl⟩
abbrev main_v86 : Ref sig .tc := ⟨.hbm, 127, rfl⟩
abbrev main_c_25 : Ref sig .tc := ⟨.hbm, 128, rfl⟩
abbrev main_v87 : Ref sig .tc := ⟨.hbm, 129, rfl⟩
abbrev main_v88 : Ref sig .tc := ⟨.hbm, 130, rfl⟩
abbrev main_c_26 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_27 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_28 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_29 : Ref sig .tc := ⟨.hbm, 146, rfl⟩
abbrev main_v101 : Ref sig .tc := ⟨.hbm, 147, rfl⟩
abbrev main_c_30 : Ref sig .tc := ⟨.hbm, 148, rfl⟩
abbrev main_call5_v0 : Ref sig .tc := ⟨.hbm, 149, rfl⟩
abbrev main_call5_v1 : Ref sig .tc := ⟨.hbm, 150, rfl⟩
abbrev main_v102 : Ref sig .tc := ⟨.hbm, 151, rfl⟩
abbrev main_c_31 : Ref sig .tc := ⟨.hbm, 152, rfl⟩
abbrev main_v103 : Ref sig .tc := ⟨.hbm, 153, rfl⟩
abbrev main_v104 : Ref sig .tc := ⟨.hbm, 154, rfl⟩
abbrev main_c_32 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_33 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_34 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_35 : Ref sig .tc := ⟨.hbm, 170, rfl⟩
abbrev main_v117 : Ref sig .tc := ⟨.hbm, 171, rfl⟩
abbrev main_c_36 : Ref sig .tc := ⟨.hbm, 172, rfl⟩
abbrev main_call6_v0 : Ref sig .tc := ⟨.hbm, 173, rfl⟩
abbrev main_call6_v1 : Ref sig .tc := ⟨.hbm, 174, rfl⟩
abbrev main_v118 : Ref sig .tc := ⟨.hbm, 175, rfl⟩
abbrev main_c_37 : Ref sig .tc := ⟨.hbm, 176, rfl⟩
abbrev main_v119 : Ref sig .tc := ⟨.hbm, 177, rfl⟩
abbrev main_v120 : Ref sig .tc := ⟨.hbm, 178, rfl⟩
abbrev main_c_38 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_c_39 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_40 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_c_41 : Ref sig .tc := ⟨.hbm, 194, rfl⟩
abbrev main_v133 : Ref sig .tc := ⟨.hbm, 195, rfl⟩
abbrev main_c_42 : Ref sig .tc := ⟨.hbm, 196, rfl⟩
abbrev main_call7_v0 : Ref sig .tc := ⟨.hbm, 197, rfl⟩
abbrev main_call7_v1 : Ref sig .tc := ⟨.hbm, 198, rfl⟩
abbrev main_v134 : Ref sig .tc := ⟨.hbm, 199, rfl⟩
abbrev main_c_43 : Ref sig .tc := ⟨.hbm, 200, rfl⟩
abbrev main_v135 : Ref sig .tc := ⟨.hbm, 201, rfl⟩
abbrev main_v136 : Ref sig .tc := ⟨.hbm, 202, rfl⟩
abbrev main_c_44 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_c_45 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_46 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_c_47 : Ref sig .tc := ⟨.hbm, 218, rfl⟩
abbrev main_v149 : Ref sig .tc := ⟨.hbm, 219, rfl⟩
abbrev main_c_48 : Ref sig .tc := ⟨.hbm, 220, rfl⟩
abbrev main_call8_v0 : Ref sig .tc := ⟨.hbm, 221, rfl⟩
abbrev main_call8_v1 : Ref sig .tc := ⟨.hbm, 222, rfl⟩
abbrev main_v150 : Ref sig .tc := ⟨.hbm, 223, rfl⟩
abbrev main_c_49 : Ref sig .tc := ⟨.hbm, 224, rfl⟩
abbrev main_v151 : Ref sig .tc := ⟨.hbm, 225, rfl⟩
abbrev main_v152 : Ref sig .tc := ⟨.hbm, 226, rfl⟩
abbrev main_c_50 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_c_51 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_52 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_cst_53 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_call9_v0 : Ref sig .tc := ⟨.hbm, 254, rfl⟩
abbrev main_call9_cst : Ref sig .tc := ⟨.hbm, 255, rfl⟩
abbrev main_call9_call0_v0 : Ref sig .tc := ⟨.hbm, 256, rfl⟩
abbrev main_call9_v1 : Ref sig .tc := ⟨.hbm, 257, rfl⟩
abbrev main_call9_cst_0 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_cst_54 : Ref sig .tc := ⟨.hbm, 263, rfl⟩
abbrev main_v180 : Ref sig .tc := ⟨.hbm, 264, rfl⟩
abbrev main_cst_55 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_cst_56 : Ref sig .tc := ⟨.hbm, 269, rfl⟩
abbrev main_v184 : Ref sig .tc := ⟨.hbm, 270, rfl⟩
abbrev main_cst_57 : Ref sig .tc := ⟨.hbm, 271, rfl⟩
abbrev main_v185 : Ref sig .tc := ⟨.hbm, 272, rfl⟩
abbrev main_cst_58 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩

abbrev nD : Nat := 1
abbrev τ : Topo := Topo.v7x

variable {F : FTy → Type} [FloatOps F]
-- ==== Proof.RefTerm.lean ====
module

public import proofs.«01_k».proof.ReferenceIdeal
public import proofs.«01_k».proof.Proof.Gen.ReferenceIdeal

@[expose] public section

set_option maxRecDepth 16384

noncomputable section

namespace Cert.ReferenceIdeal.Hand

open Cert.ReferenceIdeal Cert.ReferenceIdeal.Gen
open Idealize.ShloMosaic

variable {F : FTy → Type} [FloatOps F]

/-- The chunks of the input: the 256 channels cut into 8 groups of 32. -/
def chunks (X : FVec F S4x256x256 .f32) : FVec F S4x8x32x256 .f32 :=
  shapeCast S4x8x32x256 X shapeCasts_S4x256x256_S4x8x32x256

/-- The squared distance (up to the way it is summed) of every chunk to every code word. -/
def dist (X : FVec F S4x8x32x256 .f32) (C : FVec F S8x8192x32 .f32) : FVec F S4x8x8192x256 .f32 :=
  addf
    (addf
      (broadcastInDim S4x8x8192x256 ![0, 1, 2, 3] bcast_S4x8x1x256_S4x8x8192x256_0_1_2_3
        (broadcastInDim S4x8x1x256 ![0, 1, 3] bcast_S4x8x256_S4x8x1x256_0_1_3
          (Host.reduceAdd (mulf X X) (constant S_ .f32 0x00000000#32) reducesTo_S4x8x32x256_S4x8x256_d2 h_S_)))
      (broadcastInDim S4x8x8192x256 ![0, 1, 2, 3] bcast_S1x8x8192x1_S4x8x8192x256_0_1_2_3
        (broadcastInDim S1x8x8192x1 ![1, 2] bcast_S8x8192_S1x8x8192x1_1_2
          (Host.reduceAdd (mulf C C) (constant S_ .f32 0x00000000#32) reducesTo_S8x8192x32_S8x8192_d2 h_S_))))
    (mulf (broadcastInDim S4x8x8192x256 ![] bcast_S_S4x8x8192x256 (constant S_ .f32 0xC0000000#32))
      (transpose S4x8x8192x256 [2, 0, 1, 3]
        (Host.dotGeneral dot_S8x8192x32_S4x8x32x256_S8x8192x4x256_2_2_1_03_0_1 none C X)
        transposes_S8x8192x4x256_S4x8x8192x256_2_0_1_3))

/-- The position of the nearest code word, by the reference's argmin. -/
def nearest (D : FVec F S4x8x8192x256 .f32) : IVec S4x8x256 32 := fun j =>
  (Host.argReduce reducer_argmin_f32_i32 D (iotaInDim S4x8x8192x256 32 2)
    (constant S_ .f32 0x7F800000#32) (constantI S_ 32 0#32) reducesTo_S4x8x8192x256_S4x8x256_d2 h_S_ j).2

/-- The codebook's number at every choice, brought into range from below zero. -/
def bookIx : IVec S4x8x256x1 32 :=
  broadcastInDim S4x8x256x1 ![0, 1, 2] bcast_S4x8x256_S4x8x256x1_0_1_2
    (broadcastInDim S4x8x256 ![0, 1, 2] bcast_S1x8x1_S4x8x256_0_1_2
      (select
        (cmpi .slt (broadcastInDim S1x8x1 ![1] bcast_S8_S1x8x1_1 (iotaInDim S8 32 0))
          (broadcastInDim S1x8x1 ![] bcast_S_S1x8x1 (constantI S_ 32 0#32)))
        (addi (broadcastInDim S1x8x1 ![1] bcast_S8_S1x8x1_1 (iotaInDim S8 32 0))
          (broadcastInDim S1x8x1 ![] bcast_S_S1x8x1 (constantI S_ 32 8#32)))
        (broadcastInDim S1x8x1 ![1] bcast_S8_S1x8x1_1 (iotaInDim S8 32 0))))

/-- The code word's number at every choice, brought into range from below zero. -/
def wordIx (I : IVec S4x8x256 32) : IVec S4x8x256x1 32 :=
  broadcastInDim S4x8x256x1 ![0, 1, 2] bcast_S4x8x256_S4x8x256x1_0_1_2
    (select (cmpi .slt I (broadcastInDim S4x8x256 ![] bcast_S_S4x8x256 (constantI S_ 32 0#32)))
      (addi I (broadcastInDim S4x8x256 ![] bcast_S_S4x8x256 (constantI S_ 32 8192#32))) I)

/-- The code words at pairs of a codebook's number and a code word's, laid out as the chunks are. -/
def pick (C : FVec F S8x8192x32 .f32) (a b : IVec S4x8x256x1 32) : FVec F S4x8x32x256 .f32 :=
  transpose S4x8x32x256 [0, 1, 3, 2]
    (Host.gather gather_S8x8192x32_S4x8x256x2_S4x8x256x32_3_01_n_n_01_3_1132 C
      (concatenate S4x8x256x2 3 [⟨S4x8x256x1, a⟩, ⟨S4x8x256x1, b⟩] concatenates_S4x8x256x1_S4x8x256x1_S4x8x256x2_d3))
    transposes_S4x8x256x32_S4x8x32x256_0_1_3_2

/-- The code words picked, laid out as the chunks are. -/
def quant (C : FVec F S8x8192x32 .f32) (I : IVec S4x8x256 32) : FVec F S4x8x32x256 .f32 :=
  pick C bookIx (wordIx I)

/-- The 1024 choices made in one codebook, in a row. -/
def flat (o : Fin 3 → ℕ) (hs : S4x8x256.Slices o S4x1x256) (I : IVec S4x8x256 32) : IVec S1024 32 :=
  shapeCast S1024 (shapeCast S4x256 (extractStridedSlice S4x1x256 o I hs) shapeCasts_S4x1x256_S4x256) shapeCasts_S4x256_S1024

/-- Choices below zero raised to zero. -/
def clip (v : IVec S1024 32) : IVec S1024 32 :=
  maxsi (broadcastInDim S1024 ![] bcast_S_S1024 (id (constantI S_ 32 0#32))) v

/-- How often each code word was chosen, as floats: one added per choice at the place chosen. -/
def usage (v : IVec S1024 32) : FVec F S8192 .f32 :=
  sitofp .f32
    (Host.scatter scatter_S8192_S1024x1_S1024_n_0_0_1 IntOp.addi
      (broadcastInDim S8192 ![] bcast_S_S8192 (constantI S_ 32 0#32))
      (broadcastInDim S1024x1 ![0] bcast_S1024_S1024x1_0
        (select (cmpi .slt (clip v) (broadcastInDim S1024 ![] bcast_S_S1024 (constantI S_ 32 0#32)))
          (addi (clip v) (broadcastInDim S1024 ![] bcast_S_S1024 (constantI S_ 32 8192#32))) (clip v)))
      (broadcastInDim S1024 ![] bcast_S_S1024 (constantI S_ 32 1#32)))

/-- Counts as shares of the 1024 choices, in one row. -/
def share (u : FVec F S8192 .f32) : FVec F S1x8192 .f32 :=
  broadcastInDim S1x8192 ![1] bcast_S8192_S1x8192_1
    (Host.divf u (broadcastInDim S8192 ![] bcast_S_S8192 (constant S_ .f32 0x44800000#32)))

/-- The eight codebooks' rows of shares, stacked. -/
def stacked (a0 a1 a2 a3 a4 a5 a6 a7 : FVec F S1x8192 .f32) : FVec F S8x8192 .f32 :=
  concatenate S8x8192 0 [⟨S1x8192, a0⟩, ⟨S1x8192, a1⟩, ⟨S1x8192, a2⟩, ⟨S1x8192, a3⟩, ⟨S1x8192, a4⟩, ⟨S1x8192, a5⟩, ⟨S1x8192, a6⟩, ⟨S1x8192, a7⟩]
    concatenates_S1x8192_S1x8192_S1x8192_S1x8192_S1x8192_S1x8192_S1x8192_S1x8192_S8x8192_d0

/-- The eight codebooks' shares from the choices. -/
def shares (I : IVec S4x8x256 32) : FVec F S8x8192 .f32 :=
  stacked
    (share (usage (flat ![0, 0, 0] slices_S4x8x256_S4x1x256_0_0_0 I)))
    (share (usage (flat ![0, 1, 0] slices_S4x8x256_S4x1x256_0_1_0 I)))
    (share (usage (flat ![0, 2, 0] slices_S4x8x256_S4x1x256_0_2_0 I)))
    (share (usage (flat ![0, 3, 0] slices_S4x8x256_S4x1x256_0_3_0 I)))
    (share (usage (flat ![0, 4, 0] slices_S4x8x256_S4x1x256_0_4_0 I)))
    (share (usage (flat ![0, 5, 0] slices_S4x8x256_S4x1x256_0_5_0 I)))
    (share (usage (flat ![0, 6, 0] slices_S4x8x256_S4x1x256_0_6_0 I)))
    (share (usage (flat ![0, 7, 0] slices_S4x8x256_S4x1x256_0_7_0 I)))

/-- The terms of the entropy: minus the share times the logarithm of the share. -/
def terms (P : FVec F S8x8192 .f32) : FVec F S8x8192 .f32 :=
  mulf (Host.negf P) (Host.log (addf P (broadcastInDim S8x8192 ![] bcast_S_S8x8192 (constant S_ .f32 0x322BCC77#32))))

/-- The sum of the terms that are numbers, for each codebook, and its exponential. -/
def perplexity (P : FVec F S8x8192 .f32) : FVec F S8 .f32 :=
  Host.exp
    (Host.reduceAdd
      (select (cmpf .une (terms P) (terms P)) (broadcastInDim S8x8192 ![] bcast_S_S8x8192 (constant S_ .f32 0x00000000#32)) (terms P))
      (constant S_ .f32 0x00000000#32) reducesTo_S8x8192_S8_d1 h_S_)

/-- The mean of the squared differences between the chunks and the code words picked. -/
def meanSq (X Q : FVec F S4x8x32x256 .f32) : FVec F S_ .f32 :=
  Host.divf
    (Host.reduceAdd (mulf (subf X Q) (subf X Q)) (constant S_ .f32 0x00000000#32) reducesTo_S4x8x32x256_S_d0_1_2_3 h_S_)
    (constant S_ .f32 0x48800000#32)

/-- The loss: the mean plus a quarter of the mean. -/
def loss (X Q : FVec F S4x8x32x256 .f32) : FVec F S_ .f32 :=
  addf (meanSq X Q) (mulf (constant S_ .f32 0x3E800000#32) (meanSq X Q))

/-- The result of the straight-through form, laid out as the input is. -/
def straight (X Q : FVec F S4x8x32x256 .f32) : FVec F S4x256x256 .f32 :=
  shapeCast S4x256x256 (addf X (subf Q X)) shapeCasts_S4x8x32x256_S4x256x256

end Cert.ReferenceIdeal.Hand

end
-- ==== Proof.RefRun.lean ====
module

public import proofs.«01_k».proof.Proof.RefTerm
public import proofs.«01_k».proof.Proof.Gen.ReferenceIdeal
public import Idealize.ShloMosaic.Lib.Claim
public import Idealize.ShloMosaic.Lib.StableHlo.RunRead
public import Idealize.ShloMosaic.Lib.Tactic.CleanTypes
public import Idealize.ShloMosaic.Adequacy

@[expose] public section

set_option maxRecDepth 16384

noncomputable section

namespace Cert.ReferenceIdeal.Hand

open Cert.ReferenceIdeal Cert.ReferenceIdeal.Gen

open Idealize.ShloMosaic Idealize.ShloMosaic.TcCoe Idealize.ShloMosaic.StableHlo Idealize.SL.Sem

variable {F : FTy → Type} [FloatOps F]

/-- A list of operations with the proof that a program is that list. -/
def seqOf {p : Dev nD → Prog (TpuEff nD τ sig (Elt F) (Pipeline.Sig Λ₀ (Fin 0) fun p => (pcfgs (F := F) p).Adm) .tc) PUnit}
    {l : List (HloOp τ sig (Elt F))} (h : ∀ d, IsSeq (p d) l) : {l : List (HloOp τ sig (Elt F)) // ∀ d, IsSeq (p d) l} := ⟨l, h⟩

/-- The first part of the reference's operations with the proof that the program's first part is that list. -/
def seqA : {l : List (HloOp τ sig (Elt F)) // ∀ d, IsSeq (do main_part0 (F := F) d; pure ⟨⟩) l} := by
  apply seqOf
  hlo_seq

/-- The rest of the reference's operations, likewise. -/
def seqB : {l : List (HloOp τ sig (Elt F)) // ∀ d, IsSeq (do main_part1 (F := F) d; main_part2 d; main_part3 d; main_part4 d; pure ⟨⟩) l} := by
  apply seqOf
  hlo_seq

/-- After the first part: the chunks. -/
theorem chunks_read (V : Valuation τ sig (Elt F)) :
    after seqA.1 V (Proc.devRef .tc main_v0) = chunks (V (Proc.devRef .tc main_arg0)) := by
  unfold seqA seqOf; after_reads_simp; (try clean_types); rfl

/-- After the first part: the choices. -/
theorem nearest_read (V : Valuation τ sig (Elt F)) :
    after seqA.1 V (Proc.devRef .tc main_v15)
      = nearest (dist (chunks (V (Proc.devRef .tc main_arg0))) (V (Proc.devRef .tc main_arg1))) := by
  unfold seqA seqOf; after_reads_simp; (try clean_types); rfl

/-- After the first part: the codebooks' numbers. -/
theorem book_read (V : Valuation τ sig (Elt F)) : upto seqA.1 V 42 (Proc.devRef .tc main_v29) = bookIx := by
  unfold seqA seqOf; after_reads_simp; rfl

/-- After the first part: the code words' numbers. -/
theorem word_read (V : Valuation τ sig (Elt F)) :
    upto seqA.1 V 42 (Proc.devRef .tc main_v30) = wordIx (after seqA.1 V (Proc.devRef .tc main_v15)) := by
  unfold seqA seqOf; after_reads_simp; rfl

/-- After the first part: the code words picked, at the numbers. -/
theorem pick_read (V : Valuation τ sig (Elt F)) :
    after seqA.1 V (Proc.devRef .tc main_v33)
      = pick (V (Proc.devRef .tc main_arg1)) (upto seqA.1 V 42 (Proc.devRef .tc main_v29))
          (upto seqA.1 V 42 (Proc.devRef .tc main_v30)) := by
  apply Eq.trans
  · unfold seqA seqOf
    after_reads_simp
    rfl
  · rfl

/-- After the first part: the code words picked. -/
theorem quant_read (V : Valuation τ sig (Elt F)) :
    after seqA.1 V (Proc.devRef .tc main_v33)
      = quant (V (Proc.devRef .tc main_arg1)) (after seqA.1 V (Proc.devRef .tc main_v15)) := by
  rw [pick_read, book_read, word_read]; rfl

/-- The operations of the first part after the choices are made: the first codebook's counts, from any contents. -/
theorem usage0_tail (W : Valuation τ sig (Elt F)) :
    after (seqA.1.drop 23) W (Proc.devRef .tc main_v47)
      = usage (flat ![0, 0, 0] slices_S4x8x256_S4x1x256_0_0_0 (W (Proc.devRef .tc main_v15))) := by
  unfold seqA seqOf; dsimp only [List.drop_succ_cons, List.drop_zero]; after_reads_simp; clean_types; rfl

/-- Those operations leave the choices alone. -/
theorem nearest_tail (W : Valuation τ sig (Elt F)) :
    after (seqA.1.drop 23) W (Proc.devRef .tc main_v15) = W (Proc.devRef .tc main_v15) := by
  unfold seqA seqOf; dsimp only [List.drop_succ_cons, List.drop_zero]; after_reads_simp

/-- After the first part: the first codebook's counts. -/
theorem usage0_read (V : Valuation τ sig (Elt F)) :
    after seqA.1 V (Proc.devRef .tc main_v47)
      = usage (flat ![0, 0, 0] slices_S4x8x256_S4x1x256_0_0_0 (after seqA.1 V (Proc.devRef .tc main_v15))) := by
  have h : after seqA.1 V = after (seqA.1.drop 23) (after (seqA.1.take 23) V) := by
    rw [← StableHlo.after_append, List.take_append_drop]
  rw [h, usage0_tail, nearest_tail]

/-- The first codebook's row, from any contents the second part starts at. -/
theorem row0_read (V : Valuation τ sig (Elt F)) :
    upto seqB.1 V 179 (Proc.devRef .tc main_v162) = share (V (Proc.devRef .tc main_v47)) := by
  unfold seqB seqOf; after_reads_simp; (try clean_types); rfl

/-- Row 1 of the shares, from any contents the second part starts at. -/
theorem row1_read (V : Valuation τ sig (Elt F)) :
    upto seqB.1 V 179 (Proc.devRef .tc main_v163)
      = share (usage (flat ![0, 1, 0] slices_S4x8x256_S4x1x256_0_1_0 (V (Proc.devRef .tc main_v15)))) := by
  unfold seqB seqOf; after_reads_simp; (try clean_types); rfl

/-- Row 2 of the shares, from any contents the second part starts at. -/
theorem row2_read (V : Valuation τ sig (Elt F)) :
    upto seqB.1 V 179 (Proc.devRef .tc main_v164)
      = share (usage (flat ![0, 2, 0] slices_S4x8x256_S4x1x256_0_2_0 (V (Proc.devRef .tc main_v15)))) := by
  unfold seqB seqOf; after_reads_simp; (try clean_types); rfl

/-- Row 3 of the shares, from any contents the second part starts at. -/
theorem row3_read (V : Valuation τ sig (Elt F)) :
    upto seqB.1 V 179 (Proc.devRef .tc main_v165)
      = share (usage (flat ![0, 3, 0] slices_S4x8x256_S4x1x256_0_3_0 (V (Proc.devRef .tc main_v15)))) := by
  unfold seqB seqOf; after_reads_simp; (try clean_types); rfl

/-- Row 4 of the shares, from any contents the second part starts at. -/
theorem row4_read (V : Valuation τ sig (Elt F)) :
    upto seqB.1 V 179 (Proc.devRef .tc main_v166)
      = share (usage (flat ![0, 4, 0] slices_S4x8x256_S4x1x256_0_4_0 (V (Proc.devRef .tc main_v15)))) := by
  unfold seqB seqOf; after_reads_simp; (try clean_types); rfl

/-- Row 5 of the shares, from any contents the second part starts at. -/
theorem row5_read (V : Valuation τ sig (Elt F)) :
    upto seqB.1 V 179 (Proc.devRef .tc main_v167)
      = share (usage (flat ![0, 5, 0] slices_S4x8x256_S4x1x256_0_5_0 (V (Proc.devRef .tc main_v15)))) := by
  unfold seqB seqOf; after_reads_simp; (try clean_types); rfl

/-- Row 6 of the shares, from any contents the second part starts at. -/
theorem row6_read (V : Valuation τ sig (Elt F)) :
    upto seqB.1 V 179 (Proc.devRef .tc main_v168)
      = share (usage (flat ![0, 6, 0] slices_S4x8x256_S4x1x256_0_6_0 (V (Proc.devRef .tc main_v15)))) := by
  unfold seqB seqOf; after_reads_simp; (try clean_types); rfl

/-- Row 7 of the shares, from any contents the second part starts at. -/
theorem row7_read (V : Valuation τ sig (Elt F)) :
    upto seqB.1 V 179 (Proc.devRef .tc main_v169)
      = share (usage (flat ![0, 7, 0] slices_S4x8x256_S4x1x256_0_7_0 (V (Proc.devRef .tc main_v15)))) := by
  unfold seqB seqOf; after_reads_simp; (try clean_types); rfl

set_option maxHeartbeats 1000000 in
/-- The exponentials of the entropies, from any contents the second part starts at. -/
theorem perplexity_read (V : Valuation τ sig (Elt F)) :
    after seqB.1 V (Proc.devRef .tc main_v177)
      = perplexity (stacked (upto seqB.1 V 179 (Proc.devRef .tc main_v162)) (upto seqB.1 V 179 (Proc.devRef .tc main_v163))
          (upto seqB.1 V 179 (Proc.devRef .tc main_v164)) (upto seqB.1 V 179 (Proc.devRef .tc main_v165))
          (upto seqB.1 V 179 (Proc.devRef .tc main_v166)) (upto seqB.1 V 179 (Proc.devRef .tc main_v167))
          (upto seqB.1 V 179 (Proc.devRef .tc main_v168)) (upto seqB.1 V 179 (Proc.devRef .tc main_v169))) := by
  apply Eq.trans
  · unfold seqB seqOf
    after_reads_simp
    rfl
  · dsimp only [Matrix.cons_val]
    clean_types
    rfl

/-- The loss, from any contents the second part starts at. -/
theorem loss_read (V : Valuation τ sig (Elt F)) :
    after seqB.1 V (Proc.devRef .tc main_v187) = loss (V (Proc.devRef .tc main_v0)) (V (Proc.devRef .tc main_v33)) := by
  unfold seqB seqOf; after_reads_simp; (try clean_types); rfl

/-- The straight-through result, from any contents the second part starts at. -/
theorem straight_read (V : Valuation τ sig (Elt F)) :
    after seqB.1 V (Proc.devRef .tc main_v190) = straight (V (Proc.devRef .tc main_v0)) (V (Proc.devRef .tc main_v33)) := by
  unfold seqB seqOf; after_reads_simp; (try clean_types); rfl

/-- The whole program is the two lists one after the other. -/
theorem main_seq (d : Dev nD) : IsSeq (main (F := F) d) (seqA.1 ++ seqB.1) := by
  have hA := (seqA (F := F)).2 d
  have hB := (seqB (F := F)).2 d
  unfold IsSeq at hA hB ⊢
  rw [seq_append, ← hA, ← hB]
  rfl

/-- What the whole program leaves, in two steps. -/
theorem after_both (V : Valuation τ sig (Elt F)) : after (seqA.1 ++ seqB.1) V = after seqB.1 (after seqA.1 V) :=
  StableHlo.after_append _ _ _

/-- An argument is left alone by the whole program. -/
theorem arg0_read (V : Valuation τ sig (Elt F)) :
    after seqB.1 (after seqA.1 V) (Proc.devRef .tc main_arg0) = V (Proc.devRef .tc main_arg0) := by
  unfold seqA seqB seqOf; after_reads_simp

/-- An argument is left alone by the whole program. -/
theorem arg1_read (V : Valuation τ sig (Elt F)) :
    after seqB.1 (after seqA.1 V) (Proc.devRef .tc main_arg1) = V (Proc.devRef .tc main_arg1) := by
  unfold seqA seqB seqOf; after_reads_simp

/-- The choices of the arguments. -/
abbrev choice (X : FVec F S4x256x256 .f32) (C : FVec F S8x8192x32 .f32) : IVec S4x8x256 32 :=
  nearest (dist (chunks X) C)

/-- The codebooks' shares at the end of the row stage are those of the choices. -/
theorem shares_read (V : Valuation τ sig (Elt F)) :
    after seqB.1 (after seqA.1 V) (Proc.devRef .tc main_v177)
      = perplexity (shares (choice (V (Proc.devRef .tc main_arg0)) (V (Proc.devRef .tc main_arg1)))) := by
  rw [perplexity_read, row0_read, row1_read, row2_read, row3_read, row4_read, row5_read, row6_read, row7_read,
    usage0_read, nearest_read]
  rfl

/-- From any memory with every counter at zero the reference runs to its end. Its three results are then the
    straight-through form, the loss and the exponentials of the entropies of the arguments' first contents; the
    arguments are as they were and every counter is at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v190)
            = straight (chunks (m ((c.tc : Thread nD τ).loc main_arg0)))
                (quant (m ((c.tc : Thread nD τ).loc main_arg1))
                  (choice (m ((c.tc : Thread nD τ).loc main_arg0)) (m ((c.tc : Thread nD τ).loc main_arg1))))
        ∧ r.2.mem ((c.tc : Thread nD τ).loc main_v187)
            = loss (chunks (m ((c.tc : Thread nD τ).loc main_arg0)))
                (quant (m ((c.tc : Thread nD τ).loc main_arg1))
                  (choice (m ((c.tc : Thread nD τ).loc main_arg0)) (m ((c.tc : Thread nD τ).loc main_arg1))))
        ∧ r.2.mem ((c.tc : Thread nD τ).loc main_v177)
            = perplexity (shares (choice (m ((c.tc : Thread nD τ).loc main_arg0)) (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (run_hlo defs main main_seq (by decide) (by decide) ?_ ?_ m ρ) fun r h => ⟨fun c => ⟨?_, ?_, ?_, ?_, ?_⟩, ?_⟩
  · unfold seqA seqB seqOf; simp
  · unfold seqA seqB seqOf
    intro _ h; (repeat (cases h with | head => rfl | tail _ h => ?_)); exact nomatch h
  · rw [h c, after_both, straight_read, chunks_read, quant_read, nearest_read]
  · rw [h c, after_both, loss_read, chunks_read, quant_read, nearest_read]
  · rw [h c, after_both, shares_read]
  · rw [h c, after_both, arg0_read]
  · rw [h c, after_both, arg1_read]
  · exact sem_eq_zero_of_no_sems (by decide) r.2

end Cert.ReferenceIdeal.Hand

end
-- ==== Proof.KernelPoints.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ)

/-- A point is one of 32. -/
theorem point_lt (t : Fin cfg0.N) : t.val < 32 := lt_of_lt_of_eq t.isLt N_0

/-- The one-hot columns of a point. -/
abbrev ohAt (c : Dev nD) (t : Fin cfg0.N) : FVec Ideal S8192x256 .f32 :=
  k0_pay10 (iblk m c 1 t) (iblk m c 2 t) (iblk m c 0 t)

/-- The sum of squared differences of a point. -/
abbrev sqAt (c : Dev nD) (t : Fin cfg0.N) : EReal :=
  k0_pay4 (F := Ideal) (k0_pay8 (iblk m c 1 t)) (k0_pay11 (iblk m c 1 t) (iblk m c 2 t) (iblk m c 0 t))

/-- What every point stores as its block of the first output. -/
theorem out_3 (c : Dev nD) (t : Fin cfg0.N) :
    (outsAt0 m c t.val t.isLt).1 = k0_pay12 (iblk m c 1 t) (iblk m c 2 t) (iblk m c 0 t) := by
  have hN := point_lt t
  by_cases h0 : t.val % 4 = 0
  · by_cases h2 : t.val % 32 = 0
    · rw [outsAt0_A m c t h0 (by omega) h2 (by omega) (by omega) (by omega)]; frame_out
    · rw [outsAt0_D m c t h0 (by omega) h2 (by omega) (by omega) (by omega)]; frame_out
  · by_cases h4 : t.val % 4 = 3
    · by_cases h5 : t.val % 32 = 31
      · rw [outsAt0_E m c t h0 (by omega) (by omega) (by omega) h4 h5]; frame_out
      · rw [outsAt0_C m c t h0 (by omega) (by omega) (by omega) h4 h5]; frame_out
    · rw [outsAt0_B m c t h0 (by omega) (by omega) (by omega) h4 (by omega)]; frame_out

/-- The counts kept start afresh at the first point of a codebook. -/
theorem counts_reset (c : Dev nD) (t : Fin cfg0.N) (h0 : t.val % 4 = 0) :
    (outsAt0 m c t.val t.isLt).2.2.2.1 = k0_pay2 (ohAt m c t) := by
  have hN := point_lt t
  by_cases h2 : t.val % 32 = 0
  · rw [outsAt0_A m c t h0 (by omega) h2 (by omega) (by omega) (by omega)]; frame_out
  · rw [outsAt0_D m c t h0 (by omega) h2 (by omega) (by omega) (by omega)]; frame_out

/-- At every other point the counts kept grow by the point's. -/
theorem counts_step (c : Dev nD) (t : Fin cfg0.N) (h0 : ¬t.val % 4 = 0) :
    (outsAt0 m c t.val t.isLt).2.2.2.1
      = k0_pay3 (ohAt m c t) (outsAt0 m c (t.val - 1) (lt_of_le_of_lt (Nat.sub_le _ _) t.isLt)).2.2.2.1 := by
  have hN := point_lt t
  by_cases h4 : t.val % 4 = 3
  · by_cases h5 : t.val % 32 = 31
    · rw [outsAt0_E m c t h0 (by omega) (by omega) (by omega) h4 h5]; frame_out; simp only [read_unread_whole]
    · rw [outsAt0_C m c t h0 (by omega) (by omega) (by omega) h4 h5]; frame_out; simp only [read_unread_whole]
  · rw [outsAt0_B m c t h0 (by omega) (by omega) (by omega) h4 (by omega)]; frame_out; simp only [read_unread_whole]

/-- Two indices into a one-element array are the same. -/
theorem one_index (i j : S1x1.Idx) : i = j := by
  rw [eq_ix2 i, eq_ix2 j]
  exact (ix2_inj ..).2 ⟨Subsingleton.elim (α := Fin 1) _ _, Subsingleton.elim (α := Fin 1) _ _⟩

/-- The sum kept starts afresh at the first point. -/
theorem loss_reset (c : Dev nD) (t : Fin cfg0.N) (h2 : t.val % 32 = 0) :
    (outsAt0 m c t.val t.isLt).2.2.2.2 = fun _ => sqAt m c t := by
  have hN := point_lt t
  rw [outsAt0_A m c t (by omega) (by omega) h2 (by omega) (by omega) (by omega)]; frame_out; rfl

/-- At every other point the sum kept grows by the point's. -/
theorem loss_step (c : Dev nD) (t : Fin cfg0.N) (h2 : ¬t.val % 32 = 0) :
    (outsAt0 m c t.val t.isLt).2.2.2.2
      = fun j => (show EReal from (outsAt0 m c (t.val - 1) (lt_of_le_of_lt (Nat.sub_le _ _) t.isLt)).2.2.2.2 j) + sqAt m c t := by
  have hN := point_lt t
  funext j
  by_cases h0 : t.val % 4 = 0
  · rw [outsAt0_D m c t h0 (by omega) h2 (by omega) (by omega) (by omega)]; frame_out; simp only [read_unread_whole]; rw [one_index j (Shape.Idx.first _)]; rfl
  · by_cases h4 : t.val % 4 = 3
    · by_cases h5 : t.val % 32 = 31
      · rw [outsAt0_E m c t h0 (by omega) (by omega) (by omega) h4 h5]; frame_out; simp only [read_unread_whole]; rw [one_index j (Shape.Idx.first _)]; rfl
      · rw [outsAt0_C m c t h0 (by omega) (by omega) (by omega) h4 h5]; frame_out; simp only [read_unread_whole]; rw [one_index j (Shape.Idx.first _)]; rfl
    · rw [outsAt0_B m c t h0 (by omega) (by omega) (by omega) h4 (by omega)]; frame_out; simp only [read_unread_whole]; rw [one_index j (Shape.Idx.first _)]; rfl

/-- The block of the second output stored at the last point of a codebook, from the counts kept there. -/
theorem out_4 (c : Dev nD) (t : Fin cfg0.N) (h4 : t.val % 4 = 3) :
    (outsAt0 m c t.val t.isLt).2.1 = k0_pay6 (outsAt0 m c t.val t.isLt).2.2.2.1 := by
  have hN := point_lt t
  rw [counts_step m c t (by omega)]
  by_cases h5 : t.val % 32 = 31
  · rw [outsAt0_E m c t (by omega) (by omega) (by omega) (by omega) h4 h5]; frame_out; simp only [read_unread_whole]
  · rw [outsAt0_C m c t (by omega) (by omega) (by omega) (by omega) h4 h5]; frame_out; simp only [read_unread_whole]

/-- The third output, stored at the last point, from the sum kept there. -/
theorem out_5 (c : Dev nD) (t : Fin cfg0.N) (h5 : t.val % 32 = 31) (j : S1x1.Idx) :
    (outsAt0 m c t.val t.isLt).2.2.1 j = k0_pay7 (F := Ideal) ((outsAt0 m c t.val t.isLt).2.2.2.2 j) j := by
  have hN := point_lt t
  rw [loss_step m c t (by omega)]
  rw [outsAt0_E m c t (by omega) (by omega) (by omega) (by omega) (by omega) h5]; frame_out; simp only [read_unread_whole]
  rw [one_index j (Shape.Idx.first _)]; rfl

end Cert.KernelIdeal.Hand

end
-- ==== Proof.Best.lean ====
module

public import Idealize.ShloMosaic.PureOps.Ideal
public import Idealize.ShloMosaic.PureOps.Ideal.Laws
public import Idealize.ShloMosaic.PureOps.Reduce

@[expose] public section

set_option maxRecDepth 16384

noncomputable section

namespace Cert.Vq

open Idealize.ShloMosaic

/-! ## The first position of the least of 8192 values -/

/-- The positions at which the least value is taken. -/
def attain (d : Fin 8192 → EReal) : Finset (Fin 8192) := Finset.univ.filter fun c => ∀ c', d c ≤ d c'

/-- The least value is taken somewhere. -/
theorem attain_nonempty (d : Fin 8192 → EReal) : (attain d).Nonempty := by
  obtain ⟨c, h⟩ := Finite.exists_min d
  exact ⟨c, Finset.mem_filter.2 ⟨Finset.mem_univ _, h⟩⟩

/-- The first position at which the least value is taken. -/
def best (d : Fin 8192 → EReal) : Fin 8192 := (attain d).min' (attain_nonempty d)

/-- The value there is the least. -/
theorem best_le (d : Fin 8192 → EReal) (c : Fin 8192) : d (best d) ≤ d c :=
  (Finset.mem_filter.1 ((attain d).min'_mem (attain_nonempty d))).2 c

/-- No earlier position has the least value. -/
theorem best_first (d : Fin 8192 → EReal) (c : Fin 8192) (h : d c ≤ d (best d)) : best d ≤ c :=
  Finset.min'_le _ _ (Finset.mem_filter.2 ⟨Finset.mem_univ _, fun c' => h.trans (best_le d c')⟩)

/-- A position whose value is the least and which no other such position precedes is the first. -/
theorem eq_best (d : Fin 8192 → EReal) (c : Fin 8192) (h : ∀ c', d c ≤ d c') (h' : ∀ c', d c = d c' → c ≤ c') : c = best d :=
  le_antisymm (h' _ (le_antisymm (h _) (best_le d c))) (best_first d c (h _))

/-- The fold by the minimum, from the greatest value, is the value there. -/
theorem fold_min (d : Fin 8192 → EReal) : Finset.univ.fold min ⊤ d = d (best d) := by
  refine le_antisymm ?_ ?_
  · exact (Finset.fold_min_le _).2 (.inr ⟨best d, Finset.mem_univ _, le_rfl⟩)
  · exact (Finset.le_fold_min _).2 ⟨le_top, fun c _ => best_le d c⟩

/-! ## The kernel's way: the least of the positions kept -/

/-- A position as a word, read back. -/
theorem toInt_pos (c : Fin 8192) : (BitVec.ofNat 32 (c : ℕ)).toInt = (c : ℕ) := by
  have := c.isLt
  rw [BitVec.toInt_eq_toNat_of_lt (by rw [BitVec.toNat_ofNat]; omega), BitVec.toNat_ofNat]
  omega

/-- The signed minimum is at least `z` exactly when both are. -/
theorem le_minsi (z a b : BitVec 32) : z.toInt ≤ (IntOp.minsi a b).toInt ↔ z.toInt ≤ a.toInt ∧ z.toInt ≤ b.toInt := by
  unfold IntOp.minsi
  split <;> rename_i h <;> simp only [BitVec.slt, BitVec.sle, decide_eq_true_eq] at h <;> omega

/-- The signed minimum of the positions holding the least value, every other position counted as 8192, is the first. -/
theorem fold_minsi (d : Fin 8192 → EReal) (m : EReal) (hm : m = d (best d)) :
    Finset.univ.fold IntOp.minsi 2147483647#32 (fun c : Fin 8192 => if d c = m then BitVec.ofNat 32 (c : ℕ) else 8192#32)
      = BitVec.ofNat 32 (best d : ℕ) := by
  subst hm
  have key : ∀ z : BitVec 32, z.toInt ≤ (Finset.univ.fold IntOp.minsi 2147483647#32
        (fun c : Fin 8192 => if d c = d (best d) then BitVec.ofNat 32 (c : ℕ) else 8192#32)).toInt
      ↔ z.toInt ≤ (2147483647#32).toInt ∧ ∀ c ∈ Finset.univ, z.toInt ≤ (if d c = d (best d) then BitVec.ofNat 32 (c : ℕ) else 8192#32).toInt :=
    fun z => Finset.fold_op_rel_iff_and (r := fun a b : BitVec 32 => a.toInt ≤ b.toInt) (fun {x y z} => le_minsi x y z)
  refine BitVec.eq_of_toInt_eq (le_antisymm ?_ ?_)
  · have := ((key _).1 le_rfl).2 (best d) (Finset.mem_univ _)
    rwa [if_pos rfl] at this
  · have hb := (best d).isLt
    refine (key _).2 ⟨?_, fun c _ => ?_⟩
    · rw [toInt_pos]; have : (2147483647#32).toInt = 2147483647 := by decide
      omega
    · split
      · rename_i h
        have := best_first d c h.le
        rw [toInt_pos, toInt_pos]; exact_mod_cast this
      · rw [toInt_pos]; have : (8192#32).toInt = 8192 := by decide
        omega

/-- Two positions' words compared for equality and read as a number: one where they agree, zero elsewhere. -/
theorem onehot (a b : Fin 8192) :
    (((((IntOp.cmpi .eq (BitVec.ofNat 32 (a : ℕ)) (BitVec.ofNat 32 (b : ℕ))).setWidth 32).toInt : ℝ)) : EReal) = if a = b then 1 else 0 := by
  have ha := a.isLt
  have hb := b.isLt
  have : (BitVec.ofNat 32 (a : ℕ) = BitVec.ofNat 32 (b : ℕ)) ↔ a = b := by
    constructor
    · intro h
      have := congrArg BitVec.toInt h
      rw [toInt_pos, toInt_pos] at this
      exact Fin.ext (by exact_mod_cast this)
    · rintro rfl; rfl
  unfold IntOp.cmpi
  by_cases h : a = b
  · subst h; simp
  · have hn : (BitVec.ofNat 32 (a : ℕ) == BitVec.ofNat 32 (b : ℕ)) = false := beq_eq_false_iff_ne.2 fun e => h (this.1 e)
    simp [hn, h]

/-! ## The reference's way: a fold of pairs by the smaller value, then the smaller position -/

/-- One pair comes before another: its value is smaller, or they are equal and its position's word is not greater. -/
def Before (p q : EReal × BitVec 32) : Prop := p.1 < q.1 ∨ p.1 = q.1 ∧ p.2.toInt ≤ q.2.toInt

theorem Before.refl (p : EReal × BitVec 32) : Before p p := .inr ⟨rfl, le_rfl⟩

theorem Before.trans {p q r : EReal × BitVec 32} (h : Before p q) (h' : Before q r) : Before p r := by
  rcases h with h | ⟨h, k⟩ <;> rcases h' with h' | ⟨h', k'⟩
  · exact .inl (h.trans h')
  · exact .inl (h' ▸ h)
  · exact .inl (h ▸ h')
  · exact .inr ⟨h.trans h', k.trans k'⟩

/-- A fold by a step which keeps one of its two pairs, the one that comes before the other, ends at one of all the pairs
    that comes before them all. -/
theorem foldl_before (f : EReal × BitVec 32 → EReal × BitVec 32 → EReal × BitVec 32)
    (hf : ∀ p q, (f p q = p ∨ f p q = q) ∧ Before (f p q) p ∧ Before (f p q) q) :
    ∀ (L : List (EReal × BitVec 32)) (p : EReal × BitVec 32),
      (L.foldl f p = p ∨ L.foldl f p ∈ L) ∧ Before (L.foldl f p) p ∧ ∀ q ∈ L, Before (L.foldl f p) q
  | [], p => ⟨.inl rfl, .refl p, by simp⟩
  | q :: L, p => by
    obtain ⟨hm, hp, hL⟩ := foldl_before f hf L (f p q)
    obtain ⟨hk, hfp, hfq⟩ := hf p q
    rw [List.foldl_cons]
    refine ⟨?_, hp.trans hfp, ?_⟩
    · rcases hm with hm | hm
      · rw [hm]
        rcases hk with hk | hk
        · exact .inl hk
        · exact .inr (by rw [hk]; exact List.mem_cons_self)
      · exact .inr (List.mem_cons_of_mem _ hm)
    · intro r hr
      rcases List.mem_cons.1 hr with rfl | hr
      · exact hp.trans hfq
      · exact hL r hr

/-- Such a fold, from the greatest value at position zero, over a list of exactly the values with their positions: it
    ends at the first position of the least value. -/
theorem foldl_best (f : EReal × BitVec 32 → EReal × BitVec 32 → EReal × BitVec 32)
    (hf : ∀ p q, (f p q = p ∨ f p q = q) ∧ Before (f p q) p ∧ Before (f p q) q)
    (d : Fin 8192 → EReal) (L : List (EReal × BitVec 32))
    (hL : ∀ p, p ∈ L ↔ ∃ c : Fin 8192, p = (d c, BitVec.ofNat 32 (c : ℕ))) :
    (L.foldl f (⊤, 0#32)).2 = BitVec.ofNat 32 (best d : ℕ) := by
  obtain ⟨hm, hp, hb⟩ := foldl_before f hf L (⊤, 0#32)
  have hb' : ∀ c : Fin 8192, Before (L.foldl f (⊤, 0#32)) (d c, BitVec.ofNat 32 (c : ℕ)) := fun c => hb _ ((hL _).2 ⟨c, rfl⟩)
  have hex : ∃ c : Fin 8192, L.foldl f (⊤, 0#32) = (d c, BitVec.ofNat 32 (c : ℕ)) := by
    rcases hm with hm | hm
    · refine ⟨0, ?_⟩
      have := hb' 0
      rw [hm] at this ⊢
      rcases this with h | ⟨h, -⟩
      · exact absurd h not_top_lt
      · exact Prod.ext h (by rfl)
    · exact (hL _).1 hm
  obtain ⟨c, hc⟩ := hex
  rw [hc] at hb' ⊢
  have : c = best d := by
    refine eq_best d c (fun c' => ?_) (fun c' h => ?_)
    · rcases hb' c' with h | ⟨h, -⟩
      · exact h.le
      · exact h.le
    · rcases hb' c' with h' | ⟨-, h'⟩
      · exact absurd h h'.ne
      · rw [toInt_pos, toInt_pos] at h'
        exact Fin.le_def.2 (by exact_mod_cast h')
  rw [this]

end Cert.Vq

end
-- ==== Proof.Formula.lean ====
module

public import proofs.«01_k».proof.Proof.Best
public import Idealize.ShloMosaic.Lib.Pointwise

@[expose] public section

noncomputable section

namespace Cert.Vq

open Idealize.ShloMosaic

/-! ## What is computed, over plain coordinates

`x b k i t` is coordinate `i` of the vector at batch `b`, codebook `k` and place `t`; `w k c i` is coordinate `i` of code word
`c` of codebook `k`. -/

/-- The vectors. -/
abbrev Chunks := Fin 4 → Fin 8 → Fin 32 → Fin 256 → EReal

/-- The codebooks. -/
abbrev Books := Fin 8 → Fin 8192 → Fin 32 → EReal

/-- The vectors of an input array: its 256 channels cut into 8 groups of 32. -/
def chunksOf (X : (⟨3, ![4, 256, 256]⟩ : Shape).Idx → EReal) : Chunks := fun b k i t =>
  X (ix3 b ⟨k.val * 32 + i.val, by omega⟩ t)

/-- The codebooks of an array. -/
def booksOf (C : (⟨3, ![8, 8192, 32]⟩ : Shape).Idx → EReal) : Books := fun k c i => C (ix3 k c i)

/-- The distance by which code words are compared: the vector's squared norm `n` plus the word's, minus twice their product. -/
def score (n : EReal) (w : Fin 8192 → Fin 32 → EReal) (x : Fin 32 → EReal) (c : Fin 8192) : EReal :=
  n + ∑ i, w c i * w c i + Ideal.ofBits .f32 0xC0000000#32 * ∑ i, w c i * x i

/-- The word chosen: the first one at the least distance. -/
def choice (x : Chunks) (w : Books) (b : Fin 4) (k : Fin 8) (t : Fin 256) : Fin 8192 :=
  best (score (∑ i, x b k i t * x b k i t) (w k) fun i => x b k i t)

/-- The chosen word's coordinate. -/
def picked (x : Chunks) (w : Books) (b : Fin 4) (k : Fin 8) (i : Fin 32) (t : Fin 256) : EReal :=
  w k (choice x w b k t) i

/-- How often a word is chosen. -/
def hits (x : Chunks) (w : Books) (k : Fin 8) (c : Fin 8192) : EReal :=
  ∑ b, ∑ t, if c = choice x w b k t then 1 else 0

/-- The squared differences of one batch and codebook, summed. -/
def squares (x : Chunks) (w : Books) (b : Fin 4) (k : Fin 8) : EReal :=
  ∑ i, ∑ t, (x b k i t - picked x w b k i t) * (x b k i t - picked x w b k i t)

/-- The squared differences of all, summed. -/
def total (x : Chunks) (w : Books) : EReal := ∑ k, ∑ b, squares x w b k

end Cert.Vq

end
-- ==== Proof.KernelBlock.lean ====
module

public import proofs.«01_k».proof.Proof.Gen.KernelIdeal.Skeleton
public import proofs.«01_k».proof.Proof.Formula
public import Idealize.ShloMosaic.Lib.Pointwise

@[expose] public section

set_option maxRecDepth 16384

noncomputable section

open Idealize.ShloMosaic Idealize.ShloMosaic.TcCoe Idealize.SL.Sem

namespace Cert.KernelIdeal.Hand

open Cert.KernelIdeal Cert.KernelIdeal.Gen Cert.Vq

/-! ## What one block computes, at plain coordinates -/

/-- The word a block chooses at place `t`, from the block of vectors, the codebook and the block of squared norms. -/
def blockChoice (x : FVec Ideal S1x1x32x256 .f32) (w : FVec Ideal S1x8192x32 .f32) (n : FVec Ideal S1x1x1x256 .f32) (t : Fin 256) : Fin 8192 :=
  best (score (n (ix4 0 0 0 t)) (fun c i => w (ix3 0 c i)) fun i => x (ix4 0 0 i t))

/-- The constant the minimum starts from is the greatest value. -/
theorem top_word : Ideal.ofBits FTy.f32 2139095040#32 = ⊤ := by simp [Ideal.ofBits, Ideal.ieee]

/-- The one-hot columns: one at the word chosen, zero elsewhere. -/
theorem pay10_at (x : FVec Ideal S1x1x32x256 .f32) (w : FVec Ideal S1x8192x32 .f32) (n : FVec Ideal S1x1x1x256 .f32) (c : Fin 8192) (t : Fin 256) :
    k0_pay10 (F := Ideal) x w n (ix2 c t) = if c = blockChoice x w n t then 1 else 0 := by
  pointwise [k0_pay10, k0_pay9, k0_pay8]
  have h := fold_min (score (n (ix4 0 0 0 t)) (fun c i => w (ix3 0 c i)) fun i => x (ix4 0 0 i t))
  have h' := fold_minsi (score (n (ix4 0 0 0 t)) (fun c i => w (ix3 0 c i)) fun i => x (ix4 0 0 i t)) _ h
  rw [top_word]
  exact (congrArg (fun z : BitVec 32 => ((((IntOp.cmpi .eq (BitVec.ofNat 32 (c : ℕ)) z).setWidth 32).toInt : ℝ) : EReal)) h').trans (onehot c _)

/-- The words picked out by the one-hot columns. -/
theorem pay11_at (x : FVec Ideal S1x1x32x256 .f32) (w : FVec Ideal S1x8192x32 .f32) (n : FVec Ideal S1x1x1x256 .f32) (i : Fin 32) (t : Fin 256) :
    k0_pay11 (F := Ideal) x w n (ix2 i t) = w (ix3 0 (blockChoice x w n t) i) := by
  pointwise [k0_pay11, k0_pay9]
  simp only [pay10_at, mul_ite, mul_one, mul_zero, Finset.sum_ite_eq', Finset.mem_univ, if_true]

/-- The block stored. -/
theorem pay12_at (x : FVec Ideal S1x1x32x256 .f32) (w : FVec Ideal S1x8192x32 .f32) (n : FVec Ideal S1x1x1x256 .f32) (i : Fin 32) (t : Fin 256) :
    k0_pay12 (F := Ideal) x w n (ix4 0 0 i t) = x (ix4 0 0 i t) + (w (ix3 0 (blockChoice x w n t) i) - x (ix4 0 0 i t)) := by
  rw [← pay11_at x w n i t]
  pointwise [k0_pay12, k0_pay8]

/-- The counts of a block. -/
theorem pay2_at (x : FVec Ideal S1x1x32x256 .f32) (w : FVec Ideal S1x8192x32 .f32) (n : FVec Ideal S1x1x1x256 .f32) (c : Fin 8192) :
    k0_pay2 (F := Ideal) (k0_pay10 (F := Ideal) x w n) (ix2 0 c) = ∑ t, if c = blockChoice x w n t then 1 else 0 := by
  pointwise [k0_pay2, k0_pay1]
  simp only [pay10_at]

/-- The counts kept with a block's added. -/
theorem pay3_at (x : FVec Ideal S1x1x32x256 .f32) (w : FVec Ideal S1x8192x32 .f32) (n : FVec Ideal S1x1x1x256 .f32)
    (a : FVec Ideal S1x8192 .f32) (c : Fin 8192) :
    k0_pay3 (F := Ideal) (k0_pay10 (F := Ideal) x w n) a (ix2 0 c) = a (ix2 0 c) + ∑ t, if c = blockChoice x w n t then 1 else 0 := by
  pointwise [k0_pay3, k0_pay1]
  simp only [pay10_at]

/-- The squared differences of a block, summed. -/
theorem pay4_at (x : FVec Ideal S1x1x32x256 .f32) (w : FVec Ideal S1x8192x32 .f32) (n : FVec Ideal S1x1x1x256 .f32) :
    k0_pay4 (F := Ideal) (k0_pay8 x) (k0_pay11 (F := Ideal) x w n)
      = ∑ i, ∑ t, (x (ix4 0 0 i t) - w (ix3 0 (blockChoice x w n t) i)) * (x (ix4 0 0 i t) - w (ix3 0 (blockChoice x w n t) i)) := by
  pointwise [k0_pay4, k0_pay8]
  simp only [pay11_at]

/-- The perplexity from the counts. -/
def perplexityOf (u : Fin 8192 → EReal) : EReal :=
  Ideal.exp (0 - ∑ c, u c * Ideal.ofBits .f32 0x3A800000#32 * Ideal.log (u c * Ideal.ofBits .f32 0x3A800000#32 + Ideal.ofBits .f32 0x322BCC77#32))

/-- The block of the second output. -/
theorem pay6_at (a : FVec Ideal S1x8192 .f32) (j : S1x1x1.Idx) :
    k0_pay6 (F := Ideal) a j = perplexityOf fun c => a (ix2 0 c) := by
  pointwise [k0_pay6, perplexityOf]
  rw [Fin.sum_univ_one]; rfl

/-- The block of the third output. -/
theorem pay7_at (s : EReal) (j : S1x1.Idx) : k0_pay7 (F := Ideal) s j = s * Ideal.ofBits .f32 0x36A00000#32 := by
  pointwise [k0_pay7]

end Cert.KernelIdeal.Hand

end
-- ==== Proof.KernelArrays.lean ====
module

public import proofs.«01_k».proof.Proof.KernelPoints
public import proofs.«01_k».proof.Proof.KernelBlock
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Vq

variable (m : (ℓ : Loc nD τ sig) → Buf (Elt Ideal) ℓ)

/-- The vectors of the kernel's first argument. -/
abbrev xs (c : Dev nD) : Chunks := chunksOf (m ((c : Thread nD τ).loc main_arg0))

/-- The codebooks of the kernel's second argument. -/
abbrev ws (c : Dev nD) : Books := booksOf (m ((c : Thread nD τ).loc main_arg1))

/-- The batch of a point. -/
def batchOf (t : Fin cfg0.N) : Fin 4 := ⟨t.val % 4, Nat.mod_lt _ (by omega)⟩

/-- The codebook of a point. -/
def bookOf (t : Fin cfg0.N) : Fin 8 := ⟨t.val / 4, by have := point_lt t; omega⟩

/-- Where every window's block sits at a point. -/
theorem idx : ∀ t : Fin cfg0.N, win0_0.index t = ![t.val % 4, t.val / 4, 0, 0] ∧ win0_1.index t = ![t.val % 4, t.val / 4, 0, 0]
    ∧ win0_2.index t = ![t.val / 4, 0, 0] ∧ win0_3.index t = ![t.val % 4, t.val / 4, 0, 0] ∧ win0_4.index t = ![t.val / 4, 0, 0]
    ∧ win0_5.index t = ![0, 0] := (by decide +kernel : ∀ t : Fin grid0.N, _)

/-- What the region finds in its second operand: the chunks of the input. -/
theorem entry_x (c : Dev nD) : V m c main_v0
    = (shapeCast S4x8x32x256 (show FVec Ideal S4x256x256 .f32 from m ((c : Thread nD τ).loc main_arg0)) shapeCasts_S4x256x256_S4x8x32x256 : FVec Ideal S4x8x32x256 .f32) := by
  entry_read
  try rfl

/-- What the region finds in its first operand: the chunks' squared norms. -/
theorem entry_n (c : Dev nD) : V m c main_v3
    = (broadcastInDim S4x8x1x256 ![0, 1, 3] bcast_S4x8x256_S4x8x1x256_0_1_3
        (Host.reduceAdd (mulf (shapeCast S4x8x32x256 (show FVec Ideal S4x256x256 .f32 from m ((c : Thread nD τ).loc main_arg0)) shapeCasts_S4x256x256_S4x8x32x256)
          (shapeCast S4x8x32x256 (show FVec Ideal S4x256x256 .f32 from m ((c : Thread nD τ).loc main_arg0)) shapeCasts_S4x256x256_S4x8x32x256))
          (constant S_ .f32 0x00000000#32) reducesTo_S4x8x32x256_S4x8x256_d2 h_S_) : FVec Ideal S4x8x1x256 .f32) := by
  entry_read
  try rfl

/-- The chunks of an array, read at coordinates. -/
theorem chunks_at (X : FVec Ideal S4x256x256 .f32) (b : Fin 4) (k : Fin 8) (i : Fin 32) (l : Fin 256) :
    (shapeCast S4x8x32x256 X shapeCasts_S4x256x256_S4x8x32x256 : FVec Ideal S4x8x32x256 .f32) (ix4 b k i l) = chunksOf X b k i l := by
  pointwise [chunksOf]

/-- The chunks' squared norms, read at coordinates. -/
theorem norms_at (X : FVec Ideal S4x256x256 .f32) (b : Fin 4) (k : Fin 8) (l : Fin 256) :
    (broadcastInDim S4x8x1x256 ![0, 1, 3] bcast_S4x8x256_S4x8x1x256_0_1_3
        (Host.reduceAdd (mulf (shapeCast S4x8x32x256 X shapeCasts_S4x256x256_S4x8x32x256) (shapeCast S4x8x32x256 X shapeCasts_S4x256x256_S4x8x32x256))
          (constant S_ .f32 0x00000000#32) reducesTo_S4x8x32x256_S4x8x256_d2 h_S_) : FVec Ideal S4x8x1x256 .f32) (ix4 b k 0 l)
      = ∑ i, chunksOf X b k i l * chunksOf X b k i l := by
  pointwise [chunksOf]

/-- The block of vectors of a point. -/
theorem block_x (c : Dev nD) (t : Fin cfg0.N) (i : Fin 32) (l : Fin 256) :
    iblk m c 1 t (ix4 0 0 i l) = xs m c (batchOf t) (bookOf t) i l := by
  refine Eq.trans ?_ (chunks_at _ (batchOf t) (bookOf t) i l)
  rw [← entry_x]
  unfold batchOf bookOf
  blk_ext [iblk, idx t]

/-- The codebook of a point. -/
theorem block_w (c : Dev nD) (t : Fin cfg0.N) (a : Fin 8192) (i : Fin 32) :
    iblk m c 2 t (ix3 0 a i) = ws m c (bookOf t) a i := by
  unfold ws booksOf bookOf
  blk_ext [iblk, V, idx t]

/-- The squared norms of a point. -/
theorem block_n (c : Dev nD) (t : Fin cfg0.N) (l : Fin 256) :
    iblk m c 0 t (ix4 0 0 0 l) = ∑ i, xs m c (batchOf t) (bookOf t) i l * xs m c (batchOf t) (bookOf t) i l := by
  refine Eq.trans ?_ (norms_at _ (batchOf t) (bookOf t) l)
  rw [← entry_n]
  unfold batchOf bookOf
  blk_ext [iblk, idx t]

/-- The word a point chooses. -/
theorem block_choice (c : Dev nD) (t : Fin cfg0.N) (l : Fin 256) :
    blockChoice (iblk m c 1 t) (iblk m c 2 t) (iblk m c 0 t) l = choice (xs m c) (ws m c) (batchOf t) (bookOf t) l := by
  unfold blockChoice choice
  rw [block_n]
  simp only [block_x, block_w]

/-- The first output's array. -/
def quantisedArr (x : Chunks) (w : Books) : FVec Ideal S4x8x32x256 .f32 := fun j =>
  x (j 0) (j 1) (j 2) (j 3) + (picked x w (j 0) (j 1) (j 2) (j 3) - x (j 0) (j 1) (j 2) (j 3))

/-- The second output's array. -/
def perplexityArr (x : Chunks) (w : Books) : FVec Ideal S8x1x1 .f32 := fun j => perplexityOf (hits x w (j 0))

/-- The third output's array. -/
def lossArr (x : Chunks) (w : Books) : FVec Ideal S1x1 .f32 := fun _ => total x w * Ideal.ofBits .f32 0x36A00000#32

/-- Where a point's block of the first output sits. -/
theorem emb_3 (t : Fin cfg0.N) (i : Fin 32) (l : Fin 256) :
    (win0_3.blk t).view.emb (ix4 0 0 i l) = ix4 (batchOf t) (bookOf t) i l := by
  unfold batchOf bookOf
  blk_ext [idx t]

/-- What a point stores of the first output. -/
theorem stored_3 (c : Dev nD) (t : Fin cfg0.N) (y : S1x1x32x256.Idx) :
    k0_pay12 (F := Ideal) (iblk m c 1 t) (iblk m c 2 t) (iblk m c 0 t) y = quantisedArr (xs m c) (ws m c) ((win0_3.blk t).view.emb y) := by
  obtain ⟨i, l, rfl⟩ : ∃ (i : Fin 32) (l : Fin 256), y = ix4 0 0 i l :=
    ⟨y 2, y 3, (eq_ix4 y).trans ((ix4_inj ..).2 ⟨Subsingleton.elim (α := Fin 1) _ _, Subsingleton.elim (α := Fin 1) _ _, rfl, rfl⟩)⟩
  rw [pay12_at, emb_3, block_choice, block_x, block_w]
  rfl

/-- Every entry of the first output. -/
theorem array_3 (c : Dev nD) : (dats m 0 c).arrAt 3 (cfgs 0).N = quantisedArr (xs m c) (ws m c) := by
  refine (dats m 0 c).arrAt_eq_of_covers 3 _ (by decide +kernel) fun t _ y => ?_
  blk_simp
  rw [after0_3, out_3]
  exact stored_3 m c t y

/-- The counts kept after the last point of a codebook. -/
theorem counts_last (c : Dev nD) (t : Fin cfg0.N) (h : t.val % 4 = 4 - 1) (a : Fin 8192) :
    (outsAt0 m c t.val t.isLt).2.2.2.1 (ix2 0 a) = hits (xs m c) (ws m c) (bookOf t) a := by
  refine (Pipeline.eq_sum_fin_of_reset_step_apply_of_flush (M := EReal)
    (fun n h (a : Fin 8192) => (outsAt0 m c n h).2.2.2.1 (ix2 0 a)) 4 (fun _ => 0)
    (fun (t : Fin cfg0.N) (a : Fin 8192) => ∑ l, if a = choice (xs m c) (ws m c) (batchOf t) (bookOf t) l then 1 else 0)
    (fun t h a => ?_) (fun t h a => ?_) t h a).trans ?_
  · refine (congrFun (counts_reset m c t h) _).trans ?_
    rw [ohAt, pay2_at, zero_add]
    simp only [block_choice]
  · refine (congrFun (counts_step m c t h) _).trans ?_
    rw [ohAt, pay3_at]
    simp only [block_choice]
  · rw [zero_add]
    unfold hits
    refine Fintype.sum_congr _ _ fun s => ?_
    have hs := s.isLt
    have hb : batchOf ⟨4 * (t.val / 4) + s.val, Pipeline.run_point_lt_of_flush t h s⟩ = s := Fin.ext (by simp only [batchOf]; omega)
    have hk : bookOf ⟨4 * (t.val / 4) + s.val, Pipeline.run_point_lt_of_flush t h s⟩ = bookOf t := Fin.ext (by simp only [bookOf]; omega)
    rw [hb, hk]

/-- Every entry of the second output. -/
theorem array_4 (c : Dev nD) : (dats m 0 c).arrAt 4 (cfgs 0).N = perplexityArr (xs m c) (ws m c) := by
  refine (dats m 0 c).arrAt_eq_of_covers 4 _ (by decide +kernel) fun t hf y => ?_
  have h := (flush0_4 t).1 hf
  blk_simp
  rw [after0_4, out_4 m c t h, pay6_at]
  simp only [counts_last m c t h]
  unfold perplexityArr
  have hk : ((win0_4.blk t).view.emb y) 0 = bookOf t := Fin.ext (by unfold bookOf; blk_simp [idx t])
  exact congrArg (fun k => perplexityOf (hits (xs m c) (ws m c) k)) hk.symm

/-- The squared differences of a point, summed. -/
theorem sq_point (c : Dev nD) (t : Fin cfg0.N) : sqAt m c t = squares (xs m c) (ws m c) (batchOf t) (bookOf t) := by
  rw [sqAt, pay4_at]
  simp only [block_choice, block_x, block_w]
  rfl

/-- The sum kept after the last point. -/
theorem loss_last (c : Dev nD) (t : Fin cfg0.N) (h : t.val % 32 = 31) (j : S1x1.Idx) :
    (outsAt0 m c t.val t.isLt).2.2.2.2 j = total (xs m c) (ws m c) := by
  have hN := point_lt t
  refine (Pipeline.eq_sum_fin_of_reset_step_apply_last (M := EReal)
    (fun n h (j : S1x1.Idx) => (outsAt0 m c n h).2.2.2.2 j) 32 (fun _ => 0)
    (fun (t : Fin cfg0.N) _ => squares (xs m c) (ws m c) (batchOf t) (bookOf t))
    (fun t h j => ?_) (fun t h j => ?_) (le_of_eq N_0) t (by have : cfg0.N = 32 := N_0; omega) j).trans ?_
  · refine (congrFun (loss_reset m c t h) j).trans ?_
    rw [sq_point, zero_add]
  · refine (congrFun (loss_step m c t h) j).trans ?_
    rw [sq_point]
  · rw [zero_add]
    exact Fin.sum_divmod_congr (N := cfg0.N) (A := 8) (S := 4) (fun t ha hs => rfl) N_0

/-- The entry of the third output. -/
theorem array_5 (c : Dev nD) : (dats m 0 c).arrAt 5 (cfgs 0).N = lossArr (xs m c) (ws m c) := by
  refine (dats m 0 c).arrAt_eq_of_covers 5 _ (by decide +kernel) fun t hf y => ?_
  have h := (flush0_5 t).1 hf
  blk_simp
  rw [after0_5]
  refine (out_5 m c t h y).trans ?_
  rw [loss_last m c t h, pay7_at]
  rfl

end Cert.KernelIdeal.Hand

end
-- ==== Proof.KernelTail.lean ====
module

public import proofs.«01_k».proof.Proof.KernelArrays
public import Idealize.ShloMosaic.Lib.Claim
public import Idealize.ShloMosaic.Lib.StableHlo.RunRead

@[expose] public section

set_option maxRecDepth 16384

noncomputable section

open Idealize.ShloMosaic Idealize.ShloMosaic.TcCoe Idealize.ShloMosaic.StableHlo Idealize.SL.Sem

namespace Cert.KernelIdeal.Hand

open Cert.KernelIdeal Cert.KernelIdeal.Gen Cert.Vq

/-! ## The kernel program's three results: its arrays, relaid -/

variable (m : (ℓ : Loc nD τ sig) → Buf (Elt Ideal) ℓ)

/-- The last lines relay the first array. -/
theorem read_5 (W : Valuation τ sig (Elt Ideal)) : after hostOps1 W (Proc.devRef .tc main_v5)
    = shapeCast S4x256x256 (show FVec Ideal S4x8x32x256 .f32 from W (Proc.devRef .tc main_v4_0)) shapeCasts_S4x8x32x256_S4x256x256 := by
  after_reads_simp
  rfl

/-- The last lines relay the third array. -/
theorem read_6 (W : Valuation τ sig (Elt Ideal)) : after hostOps1 W (Proc.devRef .tc main_v6)
    = shapeCast S_ (show FVec Ideal S1x1 .f32 from W (Proc.devRef .tc main_v4_2)) shapeCasts_S1x1_S_ := by
  after_reads_simp
  rfl

/-- The last lines relay the second array. -/
theorem read_7 (W : Valuation τ sig (Elt Ideal)) : after hostOps1 W (Proc.devRef .tc main_v7)
    = shapeCast S8 (show FVec Ideal S8x1x1 .f32 from W (Proc.devRef .tc main_v4_1)) shapeCasts_S8x1x1_S8 := by
  after_reads_simp
  rfl

/-- No two windows share an array. -/
theorem apart : Function.Injective (Pipeline.arrRef spec0) := by decide

/-- The quantised result. -/
theorem result_5 (c : Dev nD) : Pipeline.afterTail₀ cfgs (dats m) 0 (V0 m) [hostOps1] c main_v5
    = shapeCast S4x256x256 (quantisedArr (xs m c) (ws m c)) shapeCasts_S4x8x32x256_S4x256x256 := by
  unfold Pipeline.afterTail₀
  rw [List.flatten_singleton, read_5, ← array_3 m c]
  exact congrArg (fun A => shapeCast S4x256x256 A shapeCasts_S4x8x32x256_S4x256x256) (Pipeline.withArrays_arr _ apart c _ _ 3)

/-- The loss. -/
theorem result_6 (c : Dev nD) : Pipeline.afterTail₀ cfgs (dats m) 0 (V0 m) [hostOps1] c main_v6
    = shapeCast S_ (lossArr (xs m c) (ws m c)) shapeCasts_S1x1_S_ := by
  unfold Pipeline.afterTail₀
  rw [List.flatten_singleton, read_6, ← array_5 m c]
  exact congrArg (fun A => shapeCast S_ A shapeCasts_S1x1_S_) (Pipeline.withArrays_arr _ apart c _ _ 5)

/-- The perplexities. -/
theorem result_7 (c : Dev nD) : Pipeline.afterTail₀ cfgs (dats m) 0 (V0 m) [hostOps1] c main_v7
    = shapeCast S8 (perplexityArr (xs m c) (ws m c)) shapeCasts_S8x1x1_S8 := by
  unfold Pipeline.afterTail₀
  rw [List.flatten_singleton, read_7, ← array_4 m c]
  exact congrArg (fun A => shapeCast S8 A shapeCasts_S8x1x1_S8) (Pipeline.withArrays_arr _ apart c _ _ 4)

end Cert.KernelIdeal.Hand

end
-- ==== Proof.RefNearest.lean ====
module

public import proofs.«01_k».proof.Proof.RefTerm
public import proofs.«01_k».proof.Proof.Formula
public import Idealize.ShloMosaic.Lib.Pointwise
public import Idealize.ShloMosaic.PureOps.Ideal.Laws

@[expose] public section

set_option maxRecDepth 16384

noncomputable section

namespace Cert.ReferenceIdeal.Hand

open Cert.ReferenceIdeal Cert.ReferenceIdeal.Gen Cert.Vq
open Idealize.ShloMosaic

/-! ## The reference's distances and choices, at plain coordinates -/

/-- The chunks at plain coordinates. -/
theorem chunks_at (X : FVec Ideal S4x256x256 .f32) (b : Fin 4) (k : Fin 8) (i : Fin 32) (t : Fin 256) :
    chunks X (ix4 b k i t) = chunksOf X b k i t := by
  pointwise [chunks, chunksOf]

/-- The distances at plain coordinates. -/
theorem dist_at (X : FVec Ideal S4x8x32x256 .f32) (C : FVec Ideal S8x8192x32 .f32) (b : Fin 4) (k : Fin 8) (c : Fin 8192) (t : Fin 256) :
    dist X C (ix4 b k c t)
      = score (∑ i, X (ix4 b k i t) * X (ix4 b k i t)) (fun c i => C (ix3 k c i)) (fun i => X (ix4 b k i t)) c := by
  pointwise [dist, score]

/-- The reference's step keeps the pair that comes first. -/
theorem reducer_before (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  have ha : p.1 < q.1 → reducer_argmin_f32_i32 (F := Ideal) p q = p := fun h => by
    simp [reducer_argmin_f32_i32, Ideal.cmpf_def, Ideal.cmp, h, h.ne, Scalar.select, IntOp.ori, IntOp.andi]
  have hb : q.1 < p.1 → reducer_argmin_f32_i32 (F := Ideal) p q = q := fun h => by
    simp [reducer_argmin_f32_i32, Ideal.cmpf_def, Ideal.cmp, h.not_gt, h.ne', Scalar.select, IntOp.ori, IntOp.andi]
  have hc : p.1 = q.1 → p.2.toInt < q.2.toInt → reducer_argmin_f32_i32 (F := Ideal) p q = p := fun h k => by
    simp [reducer_argmin_f32_i32, Ideal.cmpf_def, Ideal.cmp, h, Scalar.select, IntOp.ori, IntOp.andi, IntOp.cmpi, BitVec.slt, k]
    exact Prod.ext h.symm rfl
  have hd : p.1 = q.1 → ¬ p.2.toInt < q.2.toInt → reducer_argmin_f32_i32 (F := Ideal) p q = q := fun h k => by
    simp [reducer_argmin_f32_i32, Ideal.cmpf_def, Ideal.cmp, h, Scalar.select, IntOp.ori, IntOp.andi, IntOp.cmpi, BitVec.slt, k]
  rcases lt_trichotomy p.1 q.1 with h | h | h
  · rw [ha h]; exact ⟨.inl rfl, .refl p, .inl h⟩
  · by_cases k : p.2.toInt < q.2.toInt
    · rw [hc h k]; exact ⟨.inl rfl, .refl p, .inr ⟨h, k.le⟩⟩
    · rw [hd h k]; exact ⟨.inr rfl, .inr ⟨h.symm, not_lt.1 k⟩, .refl q⟩
  · rw [hb h]; exact ⟨.inr rfl, .inl h, .refl q⟩

/-- The pairs folded at an index: the elements whose kept coordinates are that index. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  simp only [Host.argReduceFiber, List.mem_map, List.mem_filter, List.mem_finRange, true_and, decide_eq_true_eq]
  constructor
  · rintro ⟨n, e, rfl⟩
    exact ⟨_, e, rfl⟩
  · rintro ⟨i, e, rfl⟩
    exact ⟨s.rowMajor i, by rw [Equiv.symm_apply_apply]; exact e, by rw [Equiv.symm_apply_apply]⟩

/-- The kept coordinates of an element of the distances. -/
theorem drop_at (b : Fin 4) (k : Fin 8) (c : Fin 8192) (t : Fin 256) :
    reducesTo_S4x8x8192x256_S4x8x256_d2.drop (ix4 b k c t) = ix3 b k t :=
  (eq_ix3 _).trans ((ix3_inj ..).2 ⟨rfl, rfl, rfl⟩)

/-- The pairs folded at one place: each distance there with its word's number. -/
theorem mem_pairs (D : FVec Ideal S4x8x8192x256 .f32) (b : Fin 4) (k : Fin 8) (t : Fin 256) (p : EReal × BitVec 32) :
    p ∈ Host.argReduceFiber D (iotaInDim S4x8x8192x256 32 2) reducesTo_S4x8x8192x256_S4x8x256_d2 (ix3 b k t)
      ↔ ∃ c : Fin 8192, p = (D (ix4 b k c t), BitVec.ofNat 32 (c : ℕ)) := by
  rw [mem_fiber]
  constructor
  · rintro ⟨i, h, rfl⟩
    obtain ⟨b', k', c, t', rfl⟩ : ∃ (b' : Fin 4) (k' : Fin 8) (c : Fin 8192) (t' : Fin 256), i = ix4 b' k' c t' := ⟨_, _, _, _, eq_ix4 i⟩
    rw [drop_at] at h
    obtain ⟨rfl, rfl, rfl⟩ := (ix3_inj ..).1 h
    exact ⟨c, rfl⟩
  · rintro ⟨c, rfl⟩
    exact ⟨ix4 b k c t, drop_at b k c t, rfl⟩

/-- The reference's argmin, started from the greatest value at position zero, over pairs that are exactly the values `d` with
    their positions: the first position of the least value. -/
theorem argmin_best {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx) (d : Fin 8192 → EReal)
    (r : t.Idx → BitVec 32) (hr : r = fun j => (Host.argReduce (reducer_argmin_f32_i32 (F := Ideal)) x y ix iy h hu j).2)
    (hx : ix (Shape.Idx.first hu) = ⊤) (hy : iy (Shape.Idx.first hu) = 0#32)
    (hL : ∀ p : EReal × BitVec 32, p ∈ Host.argReduceFiber x y h j ↔ ∃ c : Fin 8192, p = (d c, BitVec.ofNat 32 (c : ℕ))) :
    r j = BitVec.ofNat 32 (best d : ℕ) := by
  subst hr
  beta_reduce
  rw [Ideal.argReduce_eq_reduce2, Host.reduce2_eq_foldl_fiber, hx, hy]
  exact foldl_best _ reducer_before d _ hL

/-- The word the argmin starts from is the greatest value. -/
theorem top_word : Ideal.ofBits FTy.f32 0x7F800000#32 = ⊤ := by simp [Ideal.ofBits, Ideal.ieee]

/-- The value the argmin starts from is the greatest. -/
theorem start_top (j : S_.Idx) : constant (F := Ideal) S_ .f32 0x7F800000#32 j = ⊤ := by
  pointwise
  exact top_word

/-- The position the argmin starts from is zero. -/
theorem start_zero (j : S_.Idx) : constantI S_ 32 0#32 j = 0#32 := by
  pointwise

/-- The choices are the positions of the reference's argmin. -/
theorem nearest_eq (D : FVec Ideal S4x8x8192x256 .f32) :
    nearest D = fun j => (Host.argReduce reducer_argmin_f32_i32 D (iotaInDim S4x8x8192x256 32 2)
      (constant S_ .f32 0x7F800000#32) (constantI S_ 32 0#32) reducesTo_S4x8x8192x256_S4x8x256_d2 h_S_ j).2 := rfl

/-- The choices at plain coordinates: the first word at the least distance. -/
theorem nearest_at (D : FVec Ideal S4x8x8192x256 .f32) (b : Fin 4) (k : Fin 8) (t : Fin 256) :
    nearest D (ix3 b k t) = BitVec.ofNat 32 (best (fun c => D (ix4 b k c t)) : ℕ) :=
  argmin_best D _ _ _ _ _ (ix3 b k t) (fun c => D (ix4 b k c t)) (nearest D) (nearest_eq D) (start_top _) (start_zero _)
    (mem_pairs D b k t)

/-- The reference's choices from its arguments. -/
theorem choice_at (X : FVec Ideal S4x256x256 .f32) (C : FVec Ideal S8x8192x32 .f32) (b : Fin 4) (k : Fin 8) (t : Fin 256) :
    nearest (dist (chunks X) C) (ix3 b k t) = BitVec.ofNat 32 (choice (chunksOf X) (booksOf C) b k t : ℕ) := by
  rw [nearest_at]
  simp only [dist_at, chunks_at]
  rfl

end Cert.ReferenceIdeal.Hand

end
-- ==== Proof.RefPick.lean ====
module

public import proofs.«01_k».proof.Proof.RefNearest

@[expose] public section

set_option maxRecDepth 16384

noncomputable section

namespace Cert.ReferenceIdeal.Hand

open Cert.ReferenceIdeal Cert.ReferenceIdeal.Gen Cert.Vq
open Idealize.ShloMosaic

/-! ## The code words the reference picks -/

/-- A gather by pairs of numbers in range reads the word those numbers name. -/
theorem gather_at (C : FVec Ideal S8x8192x32 .f32) (idx : IVec S4x8x256x2 32) (b : Fin 4) (k : Fin 8) (t : Fin 256) (i : Fin 32)
    (r : Fin 8) (c : Fin 8192) (hr : (idx (ix4 b k t 0)).toInt = r.val) (hc : (idx (ix4 b k t 1)).toInt = c.val) :
    Host.gather gather_S8x8192x32_S4x8x256x2_S4x8x256x32_3_01_n_n_01_3_1132 C idx (ix4 b k t i) = C (ix3 r c i) := by
  have h0 : gather_S8x8192x32_S4x8x256x2_S4x8x256x32_3_01_n_n_01_3_1132.siIdx (ix4 b k t i) ⟨0, by decide⟩ = ix4 b k t 0 :=
    (eq_ix4 _).trans ((ix4_inj ..).2 ⟨rfl, rfl, rfl, rfl⟩)
  have h1 : gather_S8x8192x32_S4x8x256x2_S4x8x256x32_3_01_n_n_01_3_1132.siIdx (ix4 b k t i) ⟨1, by decide⟩ = ix4 b k t 1 :=
    (eq_ix4 _).trans ((ix4_inj ..).2 ⟨rfl, rfl, rfl, rfl⟩)
  have hrl := r.isLt
  have hcl := c.isLt
  have e0 : min (idx (ix4 b k t 0)).toInt.toNat 7 + 0 + 0 = r.val := by rw [hr]; omega
  have e1 : min (idx (ix4 b k t 1)).toInt.toNat 8191 + 0 + 0 = c.val := by rw [hc]; omega
  rw [← h0] at e0
  rw [← h1] at e1
  exact congrArg C ((eq_ix3 _).trans ((ix3_inj ..).2 ⟨Fin.ext e0, Fin.ext e1, Fin.ext (by exact Nat.zero_add _)⟩))

/-- The codebook's number is the codebook. -/
theorem bookIx_at (b : Fin 4) (k : Fin 8) (t : Fin 256) : bookIx (ix4 b k t 0) = BitVec.ofNat 32 (k : ℕ) := by
  have hk : ∀ k : Fin 8, Scalar.select (IntOp.cmpi CmpIPredicate.slt (BitVec.ofNat 32 (k : ℕ)) 0#32)
      (IntOp.addi (BitVec.ofNat 32 (k : ℕ)) 8#32) (BitVec.ofNat 32 (k : ℕ)) = BitVec.ofNat 32 (k : ℕ) := by decide
  pointwise [bookIx]
  exact hk k

/-- The word's number is the choice, which is in range. -/
theorem wordIx_at (I : IVec S4x8x256 32) (b : Fin 4) (k : Fin 8) (t : Fin 256) (c : Fin 8192)
    (h : I (ix3 b k t) = BitVec.ofNat 32 (c : ℕ)) : wordIx I (ix4 b k t 0) = BitVec.ofNat 32 (c : ℕ) := by
  have hn : IntOp.cmpi CmpIPredicate.slt (BitVec.ofNat 32 (c : ℕ)) 0#32 = 0#1 := by
    have : ¬ ((c : ℕ) : ℤ) < 0 := by omega
    simp [IntOp.cmpi, BitVec.slt, toInt_pos, this]
  pointwise [wordIx, h, hn]

/-- The words picked, at plain coordinates. -/
theorem quant_at (C : FVec Ideal S8x8192x32 .f32) (I : IVec S4x8x256 32) (b : Fin 4) (k : Fin 8) (i : Fin 32) (t : Fin 256) (c : Fin 8192)
    (h : I (ix3 b k t) = BitVec.ofNat 32 (c : ℕ)) : quant C I (ix4 b k i t) = C (ix3 k c i) := by
  have hk := k.isLt
  pointwise [quant, pick]
  refine gather_at C _ b k t i k c ?_ ?_
  · have e : concatenate S4x8x256x2 3 [⟨S4x8x256x1, bookIx⟩, ⟨S4x8x256x1, wordIx I⟩]
        concatenates_S4x8x256x1_S4x8x256x1_S4x8x256x2_d3 (ix4 b k t 0) = bookIx (ix4 b k t 0) := by pointwise
    rw [e, bookIx_at, BitVec.toInt_ofNat', Int.bmod_def]
    omega
  · have e : concatenate S4x8x256x2 3 [⟨S4x8x256x1, bookIx⟩, ⟨S4x8x256x1, wordIx I⟩]
        concatenates_S4x8x256x1_S4x8x256x1_S4x8x256x2_d3 (ix4 b k t 1) = wordIx I (ix4 b k t 0) := by pointwise
    rw [e, wordIx_at I b k t c h, toInt_pos]

end Cert.ReferenceIdeal.Hand

end
-- ==== Proof.RefCount.lean ====
module

public import proofs.«01_k».proof.Proof.RefTerm
public import proofs.«01_k».proof.Proof.Formula
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen Cert.Vq
open Idealize.ShloMosaic

/-- Adding one to a word for each member of a list that has a property counts those members. -/
theorem foldl_addi_one {ι : Type} (p : ι → Prop) [DecidablePred p] (L : List ι) (n : ℕ) :
    L.foldl (fun a i => if p i then IntOp.addi a 1#32 else a) (BitVec.ofNat 32 n) = BitVec.ofNat 32 (n + L.countP p) := by
  induction L generalizing n with
  | nil => rfl
  | cons i L ih =>
    rw [List.foldl_cons, List.countP_cons]
    by_cases h : p i
    · have : IntOp.addi (BitVec.ofNat 32 n) 1#32 = BitVec.ofNat 32 (n + 1) := by
        simp [IntOp.addi, BitVec.ofNat_add]
      simp only [h, if_true, decide_true, this, ih]
      congr 1; omega
    · simp only [h, if_false, decide_false, ih]
      simp

/-- A small count's word stands for the count. -/
theorem toInt_count (n : ℕ) (h : n ≤ 1024) : (((BitVec.ofNat 32 n).toInt : ℝ) : EReal) = ((n : ℝ) : EReal) := by
  have : (BitVec.ofNat 32 n).toInt = n := by
    rw [BitVec.toInt_ofNat']
    simp only [Int.bmod_def]
    omega
  rw [this]; norm_cast

/-- A count over a list is a sum of ones. -/
theorem cast_countP {ι : Type} (p : ι → Prop) [DecidablePred p] (L : List ι) :
    ((L.countP p : ℝ) : EReal) = (L.map fun i => if p i then (1 : EReal) else 0).sum := by
  induction L with
  | nil => simp
  | cons i L ih =>
    rw [List.countP_cons, List.map_cons, List.sum_cons, ← ih]
    by_cases h : p i
    · simp [h, add_comm]
    · simp [h]

/-- A sum over the indices of a row is the sum over its places. -/
theorem sum_line (f : Fin 1024 → EReal) : ∑ i : S1024.Idx, f (i 0) = ∑ n, f n :=
  Fintype.sum_bijective (fun i : S1024.Idx => (i 0 : Fin 1024))
    ⟨fun i j h => (eq_ix1 i).trans ((congrArg ix1 h).trans (eq_ix1 j).symm), fun n => ⟨ix1 n, rfl⟩⟩ _ _ fun _ => rfl

/-- Where an update lands: at the word its index names. -/
theorem lands (idx : IVec S1024x1 32) (n : Fin 1024) (c : Fin 8192) :
    scatter_S8192_S1024x1_S1024_n_0_0_1.resultIdx? (ix1 n) idx = some (ix1 c) ↔ (idx (ix2 n 0)).toInt = (c.val : ℤ) := by
  rw [Routing.resultIdx?_eq_some]
  have hs : scatter_S8192_S1024x1_S1024_n_0_0_1.start (ix1 n) idx 0 = (idx (ix2 n 0)).toInt := by
    have : scatter_S8192_S1024x1_S1024_n_0_0_1.siIdx (ix1 n) ⟨0, by decide⟩ = ix2 n 0 :=
      (eq_ix2 _).trans ((ix2_inj ..).2 ⟨rfl, rfl⟩)
    exact congrArg (fun i => (idx i).toInt) this
  have hw : scatter_S8192_S1024x1_S1024_n_0_0_1.window (ix1 n) 0 = 0 := rfl
  constructor
  · intro h
    have := h 0
    rw [hs, hw] at this
    simpa using this
  · intro h a
    obtain rfl : a = 0 := Subsingleton.elim (α := Fin 1) _ _
    rw [hs, hw]
    simpa using h

/-- The index an update is added at: its choice, which is in range. -/
theorem kept (v : IVec S1024 32) (g : Fin 1024 → Fin 8192) (hg : ∀ n, v (ix1 n) = BitVec.ofNat 32 (g n : ℕ)) (n : Fin 1024) :
    (broadcastInDim S1024x1 ![0] bcast_S1024_S1024x1_0
        (select (cmpi .slt (clip v) (broadcastInDim S1024 ![] bcast_S_S1024 (constantI S_ 32 0#32)))
          (addi (clip v) (broadcastInDim S1024 ![] bcast_S_S1024 (constantI S_ 32 8192#32))) (clip v))) (ix2 n 0)
      = BitVec.ofNat 32 (g n : ℕ) := by
  have hlt := (g n).isLt
  have hmax : IntOp.maxsi 0#32 (BitVec.ofNat 32 (g n : ℕ)) = BitVec.ofNat 32 (g n : ℕ) := by
    refine BitVec.eq_of_toInt_eq ?_
    unfold IntOp.maxsi
    have := toInt_pos (g n)
    split <;> rename_i h <;> simp only [BitVec.slt, BitVec.sle, decide_eq_true_eq, this] at h ⊢ <;> simp at h ⊢ <;> omega
  pointwise [clip, hg]
  show Scalar.select (IntOp.cmpi CmpIPredicate.slt (IntOp.maxsi 0#32 (BitVec.ofNat 32 (g n : ℕ))) 0#32)
    (IntOp.addi (IntOp.maxsi 0#32 (BitVec.ofNat 32 (g n : ℕ))) 8192#32) (IntOp.maxsi 0#32 (BitVec.ofNat 32 (g n : ℕ))) = _
  rw [hmax]
  exact Routing.wrap_of_lt _ _ (by rw [BitVec.toNat_ofNat]; omega)

/-- The counts at one word: how many choices named it. -/
theorem usage_at (v : IVec S1024 32) (g : Fin 1024 → Fin 8192) (hg : ∀ n, v (ix1 n) = BitVec.ofNat 32 (g n : ℕ)) (c : Fin 8192) :
    usage (F := Ideal) v (ix1 c) = ∑ n, if c = g n then 1 else 0 := by
  have hcount : ∀ n : Fin S1024.numel, (scatter_S8192_S1024x1_S1024_n_0_0_1.resultIdx? (S1024.rowMajor.symm n)
      (broadcastInDim S1024x1 ![0] bcast_S1024_S1024x1_0
        (select (cmpi .slt (clip v) (broadcastInDim S1024 ![] bcast_S_S1024 (constantI S_ 32 0#32)))
          (addi (clip v) (broadcastInDim S1024 ![] bcast_S_S1024 (constantI S_ 32 8192#32))) (clip v))) = some (ix1 c))
      ↔ c = g (S1024.rowMajor.symm n 0) := by
    intro n
    obtain ⟨l, hl⟩ : ∃ l : Fin 1024, S1024.rowMajor.symm n = ix1 l := ⟨_, eq_ix1 _⟩
    rw [hl, lands, kept v g hg, toInt_pos]
    show _ ↔ c = g l
    rw [Fin.ext_iff]
    omega
  show ((((Host.scatter scatter_S8192_S1024x1_S1024_n_0_0_1 IntOp.addi _ _ _ (ix1 c) : BitVec 32).toInt : ℝ)) : EReal) = _
  rw [Routing.scatter_at]
  simp only [hcount]
  have hone : ∀ j, broadcastInDim S1024 ![] bcast_S_S1024 (constantI S_ 32 1#32) j = 1#32 := fun j => by
    obtain ⟨l, rfl⟩ : ∃ l : Fin 1024, j = ix1 l := ⟨_, eq_ix1 _⟩
    pointwise
  have hzero : broadcastInDim S8192 ![] bcast_S_S8192 (constantI S_ 32 0#32) (ix1 c) = BitVec.ofNat 32 0 := by
    pointwise
  simp only [hone]
  rw [hzero, foldl_addi_one (fun n : Fin S1024.numel => c = g (S1024.rowMajor.symm n 0)), Nat.zero_add, toInt_count, cast_countP]
  · rw [← Fin.sum_univ_def, Equiv.sum_comp S1024.rowMajor.symm (fun i => if c = g (i 0) then (1 : EReal) else 0)]
    exact (sum_line fun n => if c = g n then (1 : EReal) else 0)
  · exact (List.countP_le_length).trans (by rw [List.length_finRange]; decide)

end Cert.ReferenceIdeal.Hand

end
-- ==== Proof.RefResults.lean ====
module

public import proofs.«01_k».proof.Proof.RefPick
public import proofs.«01_k».proof.Proof.RefCount
public import Idealize.ShloMosaic.Lib.Pipeline.ValueKit.Acc

@[expose] public section

set_option maxRecDepth 16384

noncomputable section

namespace Cert.ReferenceIdeal.Hand

open Cert.ReferenceIdeal Cert.ReferenceIdeal.Gen Cert.Vq
open Idealize.ShloMosaic

/-! ## The reference's results, at plain coordinates -/

/-- One codebook's choices in a row: batch by batch, place by place. -/
theorem flat_at (o : Fin 3 → ℕ) (hs : S4x8x256.Slices o S4x1x256) (k : Fin 8) (ho : o = ![0, k.val, 0]) (I : IVec S4x8x256 32) (n : Fin 1024) :
    flat o hs I (ix1 n) = I (ix3 ⟨n.val / 256, by omega⟩ k ⟨n.val % 256, by omega⟩) := by
  subst ho
  pointwise [flat]

/-- Eight rows stacked. -/
theorem stacked_at (a : Fin 8 → FVec Ideal S1x8192 .f32) (k : Fin 8) (c : Fin 8192) :
    stacked (a 0) (a 1) (a 2) (a 3) (a 4) (a 5) (a 6) (a 7) (ix2 k c) = a k (ix2 0 c) := by
  fin_cases k <;> pointwise [stacked]

/-- One codebook's shares from its choices. -/
theorem share_at (o : Fin 3 → ℕ) (hs : S4x8x256.Slices o S4x1x256) (k : Fin 8) (ho : o = ![0, k.val, 0])
    (I : IVec S4x8x256 32) (x : Chunks) (w : Books)
    (hI : ∀ b k t, I (ix3 b k t) = BitVec.ofNat 32 (choice x w b k t : ℕ)) (c : Fin 8192) :
    share (usage (F := Ideal) (flat o hs I)) (ix2 0 c) = Ideal.div (hits x w k c) (Ideal.ofBits .f32 0x44800000#32) := by
  have hu := usage_at (flat o hs I) (fun n => choice x w ⟨n.val / 256, by omega⟩ k ⟨n.val % 256, by omega⟩)
    (fun n => (flat_at o hs k ho I n).trans (hI _ _ _)) c
  have hh : hits x w k c = usage (F := Ideal) (flat o hs I) (ix1 c) := by
    rw [hu]
    exact (Fin.sum_divmod_congr (N := 1024) (A := 4) (S := 256) (fun t ha hs => rfl)).symm
  pointwise [share]
  rw [hh]

/-- The shares at plain coordinates: a word's hits over the number of choices. -/
theorem shares_at (I : IVec S4x8x256 32) (x : Chunks) (w : Books)
    (hI : ∀ b k t, I (ix3 b k t) = BitVec.ofNat 32 (choice x w b k t : ℕ)) (k : Fin 8) (c : Fin 8192) :
    shares (F := Ideal) I (ix2 k c) = Ideal.div (hits x w k c) (Ideal.ofBits .f32 0x44800000#32) := by
  have hs : ∀ k : Fin 8, S4x8x256.Slices ![0, k.val, 0] S4x1x256 := by decide
  refine (stacked_at (fun k => share (usage (F := Ideal) (flat ![0, k.val, 0] (hs k) I))) k c).trans ?_
  exact share_at _ (hs k) k rfl I x w hI c

/-- The perplexity at plain coordinates. -/
theorem perplexity_at (P : FVec Ideal S8x8192 .f32) (k : Fin 8) :
    perplexity P (ix1 k)
      = Ideal.exp (∑ c, -P (ix2 k c) * Ideal.log (P (ix2 k c) + Ideal.ofBits .f32 0x322BCC77#32)) := by
  pointwise [perplexity, terms]
  simp only [ne_eq, not_true_eq_false, if_false]

/-- The sum of the squared differences, scaled as the reference scales it. -/
theorem loss_at (X Q : FVec Ideal S4x8x32x256 .f32) (j : S_.Idx) :
    loss X Q j
      = (fun s => Ideal.div s (Ideal.ofBits .f32 0x48800000#32) + Ideal.ofBits .f32 0x3E800000#32 * Ideal.div s (Ideal.ofBits .f32 0x48800000#32))
        (∑ b : Fin 4, ∑ k : Fin 8, ∑ i : Fin 32, ∑ t : Fin 256,
          (X (ix4 b k i t) - Q (ix4 b k i t)) * (X (ix4 b k i t) - Q (ix4 b k i t))) := by
  pointwise [loss, meanSq]
  rw [Ideal.hostReduceAdd_total _ (fun b => b.elim0), zero_add, sum_idx4]
  pointwise

/-- The quantised result, laid out as the input is. -/
theorem straight_at (X Q : FVec Ideal S4x8x32x256 .f32) (b : Fin 4) (a : Fin 256) (t : Fin 256) :
    straight X Q (ix3 b a t) = X (ix4 b ⟨a.val / 32, by omega⟩ ⟨a.val % 32, by omega⟩ t)
      + (Q (ix4 b ⟨a.val / 32, by omega⟩ ⟨a.val % 32, by omega⟩ t) - X (ix4 b ⟨a.val / 32, by omega⟩ ⟨a.val % 32, by omega⟩ t)) := by
  pointwise [straight]

end Cert.ReferenceIdeal.Hand

end
-- ==== Proof.Equation.lean ====
module

public import proofs.«01_k».proof.Proof.Formula
public import proofs.«01_k».proof.Proof.KernelBlock

@[expose] public section

noncomputable section

namespace Cert.Vq

open Idealize.ShloMosaic
open Cert.KernelIdeal.Hand (perplexityOf)

/-! ## The equations between the two programs' ways of scaling and summing -/

/-- The kernel's scale of the counts. -/
theorem word_share : Ideal.ofBits .f32 0x3A800000#32 = ((1 / 1024 : ℝ) : EReal) := by
  simp [Ideal.ofBits, Ideal.ieee]
  norm_num
  rw [← EReal.coe_mul]; norm_num

/-- The number of choices of one codebook. -/
theorem word_choices : Ideal.ofBits .f32 0x44800000#32 = ((1024 : ℝ) : EReal) := by
  simp [Ideal.ofBits, Ideal.ieee]
  norm_num
  rw [← EReal.coe_mul]; norm_num

/-- The number of entries of the input. -/
theorem word_entries : Ideal.ofBits .f32 0x48800000#32 = ((262144 : ℝ) : EReal) := by
  simp [Ideal.ofBits, Ideal.ieee]
  norm_num
  rw [← EReal.coe_mul]; norm_num

/-- The weight of the second term of the loss. -/
theorem word_quarter : Ideal.ofBits .f32 0x3E800000#32 = ((1 / 4 : ℝ) : EReal) := by
  simp [Ideal.ofBits, Ideal.ieee]
  norm_num
  rw [← EReal.coe_mul]; norm_num

/-- The kernel's scale of the loss. -/
theorem word_scale : Ideal.ofBits .f32 0x36A00000#32 = ((5 / 1048576 : ℝ) : EReal) := by
  simp [Ideal.ofBits, Ideal.ieee]
  norm_num
  rw [← EReal.coe_mul]; norm_num

/-- The addend under the logarithm is a positive number. -/
theorem word_small : ∃ e : ℝ, 0 < e ∧ Ideal.ofBits .f32 0x322BCC77#32 = (e : EReal) := by
  refine ⟨_, ?_, by simp [Ideal.ofBits, Ideal.ieee]; rfl⟩
  norm_num

/-- The loss: one product against a mean and a quarter of the mean, of any sum. -/
theorem loss_eq (s : EReal) :
    s * Ideal.ofBits .f32 0x36A00000#32
      = Ideal.div s (Ideal.ofBits .f32 0x48800000#32) + Ideal.ofBits .f32 0x3E800000#32 * Ideal.div s (Ideal.ofBits .f32 0x48800000#32) := by
  have h : ((5 / 1048576 : ℝ) : EReal) = ((1 / 262144 : ℝ) : EReal) + ((1 / 262144 : ℝ) : EReal) * ((1 / 4 : ℝ) : EReal) := by
    rw [← EReal.coe_mul, ← EReal.coe_add]; norm_num
  have h1 : (0 : EReal) ≤ ((1 / 262144 : ℝ) : EReal) := EReal.coe_nonneg.2 (by norm_num)
  have h2 : (0 : EReal) ≤ ((1 / 4 : ℝ) : EReal) := EReal.coe_nonneg.2 (by norm_num)
  rw [word_scale, word_entries, word_quarter, Ideal.div_coe (by norm_num), h, EReal.left_distrib_of_nonneg h1 (mul_nonneg h1 h2),
    mul_comm ((1 / 4 : ℝ) : EReal), mul_assoc]

/-- A sum of numbers is a number. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A word's hits are a number, not below zero. -/
theorem hits_real (x : Chunks) (w : Books) (k : Fin 8) (c : Fin 8192) : ∃ r : ℝ, 0 ≤ r ∧ hits x w k c = (r : EReal) := by
  refine ⟨∑ b, ∑ t, if c = choice x w b k t then 1 else 0, ?_, ?_⟩
  · exact Finset.sum_nonneg fun b _ => Finset.sum_nonneg fun t _ => by split <;> norm_num
  · unfold hits
    rw [← coe_sum]
    refine Finset.sum_congr rfl fun b _ => ?_
    rw [← coe_sum]
    refine Finset.sum_congr rfl fun t _ => ?_
    split <;> simp

/-- The perplexity: the kernel negates the whole sum, the reference each term. -/
theorem perplexity_eq (x : Chunks) (w : Books) (k : Fin 8) :
    perplexityOf (hits x w k)
      = Ideal.exp (∑ c, -(Ideal.div (hits x w k c) (Ideal.ofBits .f32 0x44800000#32))
          * Ideal.log (Ideal.div (hits x w k c) (Ideal.ofBits .f32 0x44800000#32) + Ideal.ofBits .f32 0x322BCC77#32)) := by
  choose u hu hh using hits_real x w k
  obtain ⟨e, he, hw⟩ := word_small
  have hlog : ∀ c, Ideal.log (((u c * (1 / 1024) : ℝ) : EReal) + (e : EReal)) = ((Real.log (u c * (1 / 1024) + e) : ℝ) : EReal) := fun c => by
    have : 0 < u c * (1 / 1024) + e := by have := hu c; positivity
    rw [← EReal.coe_add, Ideal.log_coe, if_neg (not_le.2 this)]
  unfold perplexityOf
  simp only [hh, hw, word_share, word_choices, Ideal.div_coe (show (1024 : ℝ) ≠ 0 by norm_num), ← EReal.coe_mul, ← EReal.coe_neg, hlog,
    coe_sum]
  refine congrArg Ideal.exp ?_
  rw [← EReal.coe_zero, ← EReal.coe_sub, zero_sub, ← Finset.sum_neg_distrib]
  simp only [neg_mul]

/-- The squared differences summed batch by batch are those summed codebook by codebook. -/
theorem total_eq (x : Chunks) (w : Books) :
    ∑ b : Fin 4, ∑ k : Fin 8, ∑ i : Fin 32, ∑ t : Fin 256, (x b k i t - picked x w b k i t) * (x b k i t - picked x w b k i t) = total x w := by
  show ∑ b : Fin 4, ∑ k : Fin 8, squares x w b k = ∑ k : Fin 8, ∑ b : Fin 4, squares x w b k
  generalize squares x w = f
  exact Finset.sum_comm

end Cert.Vq

end
-- ==== Proof.Results.lean ====
module

public import proofs.«01_k».proof.Proof.KernelArrays
public import proofs.«01_k».proof.Proof.RefResults
public import proofs.«01_k».proof.Proof.Equation
public import proofs.«01_k».proof.Proof.RefRun

@[expose] public section

set_option maxRecDepth 16384

noncomputable section

namespace Cert.Vq

open Idealize.ShloMosaic
open Cert.KernelIdeal.Hand (quantisedArr perplexityArr lossArr)
open Cert.ReferenceIdeal (S4x256x256 S8x8192x32 S8 S_)
open Cert.ReferenceIdeal.Hand

/-! ## The reference's results are the kernel's arrays, relaid -/

variable (X : FVec Ideal S4x256x256 .f32) (C : FVec Ideal S8x8192x32 .f32)

/-- The word picked by the reference's choice. -/
theorem quant_choice (b : Fin 4) (k : Fin 8) (i : Fin 32) (t : Fin 256) :
    quant C (Cert.ReferenceIdeal.Hand.choice X C) (ix4 b k i t) = picked (chunksOf X) (booksOf C) b k i t :=
  quant_at C _ b k i t _ (choice_at X C b k t)

/-- The quantised result. -/
theorem straight_eq (h : Cert.KernelIdeal.S4x8x32x256.ShapeCasts S4x256x256) :
    straight (chunks X) (quant C (Cert.ReferenceIdeal.Hand.choice X C))
      = shapeCast S4x256x256 (quantisedArr (chunksOf X) (booksOf C)) h := by
  funext j
  obtain ⟨b, a, t, rfl⟩ : ∃ (b : Fin 4) (a : Fin 256) (t : Fin 256), j = ix3 b a t := ⟨_, _, _, eq_ix3 j⟩
  rw [straight_at, chunks_at, quant_choice]
  pointwise [quantisedArr]

/-- The loss. -/
theorem loss_eq' (h : Cert.KernelIdeal.S1x1.ShapeCasts S_) :
    loss (chunks X) (quant C (Cert.ReferenceIdeal.Hand.choice X C)) = shapeCast S_ (lossArr (chunksOf X) (booksOf C)) h := by
  funext j
  rw [loss_at]
  simp only [chunks_at, quant_choice, total_eq]
  exact (loss_eq _).symm

/-- The perplexities. -/
theorem perplexity_eq' (h : Cert.KernelIdeal.S8x1x1.ShapeCasts S8) :
    perplexity (shares (Cert.ReferenceIdeal.Hand.choice X C)) = shapeCast S8 (perplexityArr (chunksOf X) (booksOf C)) h := by
  funext j
  obtain ⟨k, rfl⟩ : ∃ k : Fin 8, j = ix1 k := ⟨_, eq_ix1 j⟩
  rw [perplexity_at]
  simp only [shares_at _ (chunksOf X) (booksOf C) (choice_at X C)]
  rw [← perplexity_eq]
  pointwise [perplexityArr]

end Cert.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelTail
public import proofs.«01_k».proof.Proof.Results
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaves its arguments alone and ends with every semaphore at zero. -/
theorem referenceFrame : Cert.quiescent_ReferenceIdeal := fun m g _ =>
  θ_run_mono (Cert.ReferenceIdeal.Hand.run m g) fun _ h => ⟨fun c => ⟨(h.1 c).2.2.2.1, (h.1 c).2.2.2.2⟩, h.2⟩

/-- The three results: from equal arguments the kernel and the reference end with equal arrays. -/
theorem algebraic : Cert.algebraic_KernelIdeal_ReferenceIdeal := by
  pair_intro
  · run_from Cert.KernelIdeal.Gen.run_main m g & Cert.KernelIdeal.Gen.unchanged m g
  · run_from Cert.ReferenceIdeal.Hand.run m' g'
    · rw [Cert.KernelIdeal.Hand.result_5]
      exact Cert.Vq.straight_eq _ _ _
    · rw [Cert.KernelIdeal.Hand.result_6]
      exact Cert.Vq.loss_eq' _ _ _
    · rw [Cert.KernelIdeal.Hand.result_7]
      exact Cert.Vq.perplexity_eq' _ _ _

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, referenceFrame, trivial, algebraic⟩

end Cert.Proof

end
